-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ preserves_Kernel_KernelIdeal
    ∧ algebraic_KernelIdeal_ReferenceIdeal_pre_finite_qk (hKernelIdeal := hKernelIdeal) (hReferenceIdeal := hReferenceIdeal) (hPre_finite_qk := hPre_finite_qk)
-- ==== Pre_finite_qk.lean ====
abbrev S1x64x512 : Shape := ⟨3, ![1, 64, 512]⟩
abbrev S512x512 : Shape := ⟨2, ![512, 512]⟩
abbrev S512 : Shape := ⟨1, ![512]⟩
abbrev S_ : Shape := ⟨0, ![]⟩

class Facts : Prop where
  bcast_S_S1x64x512 : S_.BroadcastsInDim S1x64x512 (![] : Fin 0 → Fin S1x64x512.rank)
  bcast_S_S512x512 : S_.BroadcastsInDim S512x512 (![] : Fin 0 → Fin S512x512.rank)
  bcast_S_S512 : S_.BroadcastsInDim S512 (![] : Fin 0 → Fin S512.rank)

variable [Facts]

def fn {F : FTy → Type} [FloatOps F] (main_arg0 : FVec F S1x64x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) : IVec S1x64x512 1 × IVec S512x512 1 × IVec S512 1 × IVec S512x512 1 × IVec S512 1 :=
  let main_v0 : FVec F S1x64x512 .f32 := Host.absf main_arg0
  let main_cst : FVec F S_ .f32 := constant S_ .f32 0x7F800000#32
  let main_v1 : FVec F S1x64x512 .f32 := broadcastInDim S1x64x512 ![] bcast_S_S1x64x512 main_cst
  let main_v2 : IVec S1x64x512 1 := cmpf .olt main_v0 main_v1
  let main_v3 : FVec F S512x512 .f32 := Host.absf main_arg1
  let main_cst_0 : FVec F S_ .f32 := constant S_ .f32 0x7F800000#32
  let main_v4 : FVec F S512x512 .f32 := broadcastInDim S512x512 ![] bcast_S_S512x512 main_cst_0
  let main_v5 : IVec S512x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  (main_v2, main_v5, main_v8, main_v11, main_v14)
-- ==== Kernel.lean ====
abbrev S1x64x512 : Shape := ⟨3, ![1, 64, 512]⟩
abbrev S512x512 : Shape := ⟨2, ![512, 512]⟩
abbrev S512 : Shape := ⟨1, ![512]⟩
abbrev S1x512 : Shape := ⟨2, ![1, 512]⟩
abbrev S64x8x64 : Shape := ⟨3, ![64, 8, 64]⟩
abbrev S64x512 : Shape := ⟨2, ![64, 512]⟩
abbrev S256x1 : Shape := ⟨2, ![256, 1]⟩
abbrev S1x256 : Shape := ⟨2, ![1, 256]⟩
abbrev S128x1 : Shape := ⟨2, ![128, 1]⟩
abbrev S1x128 : Shape := ⟨2, ![1, 128]⟩
abbrev S8x1 : Shape := ⟨2, ![8, 1]⟩
abbrev S1x8 : Shape := ⟨2, ![1, 8]⟩
abbrev S256x8 : Shape := ⟨2, ![256, 8]⟩
abbrev S8x256 : Shape := ⟨2, ![8, 256]⟩
abbrev S128x8 : Shape := ⟨2, ![128, 8]⟩
abbrev S8x128 : Shape := ⟨2, ![8, 128]⟩
abbrev S256x256 : Shape := ⟨2, ![256, 256]⟩
abbrev S128x128 : Shape := ⟨2, ![128, 128]⟩
abbrev S1x8x64 : Shape := ⟨3, ![1, 8, 64]⟩
abbrev S8x64 : Shape := ⟨2, ![8, 64]⟩
abbrev S256x64 : Shape := ⟨2, ![256, 64]⟩
abbrev S128x64 : Shape := ⟨2, ![128, 64]⟩
abbrev S64x1 : Shape := ⟨2, ![64, 1]⟩

abbrev nBuf : Space → Nat
  | .hbm => 14
  | .vmem => 14
  | .smem => 0
  | _ => 0

abbrev bufTy : (tb : Table) → Fin (tcTables nBuf tb) → BufTy
  | .hbm, ⟨0, _⟩ => ⟨S1x64x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x64x512, .f32⟩
  | .local _ .vmem, ⟨0, _⟩ => ⟨S1x64x512, .f32⟩
  | .local _ .vmem, ⟨1, _⟩ => ⟨S512x512, .f32⟩
  | .local _ .vmem, ⟨2, _⟩ => ⟨S1x512, .f32⟩
  | .local _ .vmem, ⟨3, _⟩ => ⟨S512x512, .f32⟩
  | .local _ .vmem, ⟨4, _⟩ => ⟨S1x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S1x512, .f32⟩
  | .local _ .vmem, ⟨9, _⟩ => ⟨S1x64x512, .f32⟩
  | .local _ .vmem, ⟨10, _⟩ => ⟨S64x8x64, .f32⟩
  | .local _ .vmem, ⟨11, _⟩ => ⟨S64x8x64, .f32⟩
  | .local _ .vmem, ⟨12, _⟩ => ⟨S64x8x64, .f32⟩
  | .local _ .vmem, ⟨13, _⟩ => ⟨S64x8x64, .f32⟩
  | _, _ => ⟨S1x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c1_i32_132 : BitVec 32 := 1#32
  let c63_i32 : BitVec 32 := 63#32
  let v351 : BitVec 32 := Scalar.addi c1_i32_132 c63_i32
  let c1_i32_133 : BitVec 32 := 1#32
  ⟨c1_i32_132, v351, c1_i32_133⟩
def k0_off1 (k0_t1 : Fin k0_t1_loop.trips) : Fin 3 → Nat :=
  let c1_i32_132 : BitVec 32 := 1#32
  let c1_i32_133 : BitVec 32 := 1#32
  let arg14 : BitVec 32 := Scf.iv c1_i32_132 c1_i32_133 k0_t1
  let v363 : Index := Scalar.indexCast arg14
  let c0_146 : Index := 0#32
  let c0_147 : Index := 0#32
  ![v363.toNat, 0, 0]
def k0_off2 (k0_t1 : Fin k0_t1_loop.trips) : Fin 3 → Nat :=
  let c1_i32_132 : BitVec 32 := 1#32
  let c1_i32_133 : BitVec 32 := 1#32
  let arg14 : BitVec 32 := Scf.iv c1_i32_132 c1_i32_133 k0_t1
  let c1_i32_152 : BitVec 32 := 1#32
  let v372 : BitVec 32 := Scalar.subi arg14 c1_i32_152
  let v373 : Index := Scalar.indexCast v372
  let c0_153 : Index := 0#32
  let c0_154 : Index := 0#32
  ![v373.toNat, 0, 0]
abbrev stage0_0 : Fin 1 → Memref sig .tc .vmem S1x64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x64x512 : Shape := ⟨3, ![1, 64, 512]⟩
abbrev S512x512 : Shape := ⟨2, ![512, 512]⟩
abbrev S512 : Shape := ⟨1, ![512]⟩
abbrev S64x512 : Shape := ⟨2, ![64, 512]⟩
abbrev S1x512 : Shape := ⟨2, ![1, 512]⟩
abbrev S64x8x64 : Shape := ⟨3, ![64, 8, 64]⟩
abbrev S29 : Shape := ⟨1, ![29]⟩
abbrev S1x29 : Shape := ⟨2, ![1, 29]⟩
abbrev S14 : Shape := ⟨1, ![14]⟩
abbrev S1x14 : Shape := ⟨2, ![1, 14]⟩
abbrev S64 : Shape := ⟨1, ![64]⟩
abbrev S64x1x1 : Shape := ⟨3, ![64, 1, 1]⟩
abbrev S_ : Shape := ⟨0, ![]⟩
abbrev S8x29 : Shape := ⟨2, ![8, 29]⟩
abbrev S8x29x1 : Shape := ⟨3, ![8, 29, 1]⟩
abbrev S1x8x64 : Shape := ⟨3, ![1, 8, 64]⟩
abbrev S8x64 : Shape := ⟨2, ![8, 64]⟩
abbrev S8x1x64 : Shape := ⟨3, ![8, 1, 64]⟩
abbrev S8x29x64 : Shape := ⟨3, ![8, 29, 64]⟩
abbrev S8 : Shape := ⟨1, ![8]⟩
abbrev S8x14x64 : Shape := ⟨3, ![8, 14, 64]⟩
abbrev S8x14 : Shape := ⟨2, ![8, 14]⟩
abbrev S8x1 : Shape := ⟨2, ![8, 1]⟩
abbrev S8x44x64 : Shape := ⟨3, ![8, 44, 64]⟩
abbrev S8x44 : Shape := ⟨2, ![8, 44]⟩
abbrev S8x14x1 : Shape := ⟨3, ![8, 14, 1]⟩
abbrev S8x44x1 : Shape := ⟨3, ![8, 44, 1]⟩

abbrev nBuf : Space → Nat
  | .hbm => 473
  | .vmem => 0
  | .smem => 0
  | _ => 0

abbrev hbmTy0_0 (i : Nat) : BufTy := match i % 128 with
  | 0 => ⟨S1x64x512, .f32⟩
  | 1 => ⟨S512x512, .f32⟩
  | 2 => ⟨S512, .f32⟩
  | 3 => ⟨S512x512, .f32⟩
  | 4 => ⟨S512, .f32⟩
  | 5 => ⟨S512x512, .f32⟩
  | 6 => ⟨S512, .f32⟩
  | 7 => ⟨S512x512, .f32⟩
  | 8 => ⟨S512, .f32⟩
  | 9 => ⟨S64x512, .f32⟩
  | 10 => ⟨S512x512, .f32⟩
  | 11 => ⟨S64x512, .f32⟩
  | 12 => ⟨S1x512, .f32⟩
  | 13 => ⟨S64x512, .f32⟩
  | 14 => ⟨S64x512, .f32⟩
  | 15 => ⟨S64x8x64, .f32⟩
  | 16 => ⟨S64x512, .f32⟩
  | 17 => ⟨S512x512, .f32⟩
  | 18 => ⟨S64x512, .f32⟩
  | 19 => ⟨S1x512, .f32⟩
  | 20 => ⟨S64x512, .f32⟩
  | 21 => ⟨S64x512, .f32⟩
  | 22 => ⟨S64x8x64, .f32⟩
  | 23 => ⟨S64x512, .f32⟩
  | 24 => ⟨S512x512, .f32⟩
  | 25 => ⟨S64x512, .f32⟩
  | 26 => ⟨S1x512, .f32⟩
  | 27 => ⟨S64x512, .f32⟩
  | 28 => ⟨S64x512, .f32⟩
  | 29 => ⟨S64x8x64, .f32⟩
  | 30 => ⟨S29, .i32⟩
  | 31 => ⟨S1x29, .i32⟩
  | 32 => ⟨S14, .i32⟩
  | 33 => ⟨S1x14, .i32⟩
  | 34 => ⟨S64, .i32⟩
  | 35 => ⟨S64x1x1, .i32⟩
  | 36 => ⟨S_, .i32⟩
  | 37 => ⟨S1x29, .i32⟩
  | 38 => ⟨S1x29, .i1⟩
  | 39 => ⟨S8x29, .i1⟩
  | 40 => ⟨S8x29x1, .i1⟩
  | 41 => ⟨S1x8x64, .f32⟩
  | 42 => ⟨S8x64, .f32⟩
  | 43 => ⟨S8x1x64, .f32⟩
  | 44 => ⟨S_, .f32⟩
  | 45 => ⟨S_, .f32⟩
  | 46 => ⟨S8x29x64, .i1⟩
  | 47 => ⟨S8x29x64, .f32⟩
  | 48 => ⟨S8x29x64, .f32⟩
  | 49 => ⟨S8x29x64, .f32⟩
  | 50 => ⟨S8x29x1, .i1⟩
  | 51 => ⟨S1x8x64, .f32⟩
  | 52 => ⟨S8x64, .f32⟩
  | 53 => ⟨S8x1x64, .f32⟩
  | 54 => ⟨S_, .f32⟩
  | 55 => ⟨S_, .f32⟩
  | 56 => ⟨S8x29x64, .i1⟩
  | 57 => ⟨S8x29x64, .f32⟩
  | 58 => ⟨S8x29x64, .f32⟩
  | 59 => ⟨S8x29x64, .f32⟩
  | 60 => ⟨S_, .f32⟩
  | 61 => ⟨S_, .f32⟩
  | 62 => ⟨S8x29, .f32⟩
  | 63 => ⟨S8x29, .f32⟩
  | 64 => ⟨S8x29, .f32⟩
  | 65 => ⟨S_, .i32⟩
  | 66 => ⟨S8, .i32⟩
  | 67 => ⟨S_, .f32⟩
  | 68 => ⟨S8x14x64, .f32⟩
  | 69 => ⟨S_, .f32⟩
  | 70 => ⟨S8x14x64, .f32⟩
  | 71 => ⟨S_, .f32⟩
  | 72 => ⟨S8x14, .f32⟩
  | 73 => ⟨S_, .f32⟩
  | 74 => ⟨S64x8x64, .f32⟩
  | 75 => ⟨S_, .i32⟩
  | 76 => ⟨S_, .i32⟩
  | 77 => ⟨S64x8x64, .f32⟩
  | 78 => ⟨S64x8x64, .f32⟩
  | 79 => ⟨S64x8x64, .f32⟩
  | 80 => ⟨S1x14, .i32⟩
  | 81 => ⟨S1x29, .i32⟩
  | 82 => ⟨S64x1x1, .i32⟩
  | 83 => ⟨S_, .i32⟩
  | 84 => ⟨S_, .i32⟩
  | 85 => ⟨S8x29x64, .f32⟩
  | 86 => ⟨S8x29x64, .f32⟩
  | 87 => ⟨S8x29, .f32⟩
  | 88 => ⟨S8, .i32⟩
  | 89 => ⟨S8x14x64, .f32⟩
  | 90 => ⟨S8x14x64, .f32⟩
  | 91 => ⟨S8x14, .f32⟩
  | 92 => ⟨S64x8x64, .f32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S1x8x64, .f32⟩
  | 120 => ⟨S8x64, .f32⟩
  | 121 => ⟨S_, .i32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S1x64x512, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S1x8x64, .f32⟩
  | 16 => ⟨S8x64, .f32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S1x8x64, .f32⟩
  | 40 => ⟨S8x64, .f32⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S1x8x64, .f32⟩
  | 66 => ⟨S8x64, .f32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i1⟩
  | 74 => ⟨S8x1, .i1⟩
  | 75 => ⟨S8x1x64, .f32⟩
  | 76 => ⟨S8x44x64, .f32⟩
  | 77 => ⟨S_, .f32⟩
  | 78 => ⟨S8x29, .f32⟩
  | 79 => ⟨S8x29, .i1⟩
  | 80 => ⟨S_, .i32⟩
  | 81 => ⟨S1x14, .i32⟩
  | 82 => ⟨S1x14, .i1⟩
  | 83 => ⟨S8x14, .i1⟩
  | 84 => ⟨S_, .i1⟩
  | 85 => ⟨S8x29, .i1⟩
  | 86 => ⟨S8x29, .i1⟩
  | 87 => ⟨S8x29, .i1⟩
  | 88 => ⟨S8x44, .i1⟩
  | 89 => ⟨S8x1x64, .f32⟩
  | 90 => ⟨S8x44x64, .f32⟩
  | 91 => ⟨S8x44x64, .f32⟩
  | 92 => ⟨S_, .f32⟩
  | 93 => ⟨S8x44, .f32⟩
  | 94 => ⟨S_, .f32⟩
  | 95 => ⟨S8x44, .f32⟩
  | 96 => ⟨S8x44, .f32⟩
  | 97 => ⟨S8x44, .f32⟩
  | 98 => ⟨S_, .f32⟩
  | 99 => ⟨S_, .f32⟩
  | 100 => ⟨S8x44, .f32⟩
  | 101 => ⟨S8x44, .f32⟩
  | 102 => ⟨S_, .f32⟩
  | 103 => ⟨S8, .f32⟩
  | 104 => ⟨S8x1, .f32⟩
  | 105 => ⟨S8x44, .f32⟩
  | 106 => ⟨S8x44, .f32⟩
  | 107 => ⟨S8x1, .i32⟩
  | 108 => ⟨S8x29, .i32⟩
  | 109 => ⟨S8x29, .i32⟩
  | 110 => ⟨S8x29, .i1⟩
  | 111 => ⟨S_, .i32⟩
  | 112 => ⟨S_, .i1⟩
  | 113 => ⟨S8x1, .f32⟩
  | 114 => ⟨S8, .f32⟩
  | 115 => ⟨S8x1, .f32⟩
  | 116 => ⟨S8, .f32⟩
  | 117 => ⟨S8, .f32⟩
  | 118 => ⟨S8x1, .f32⟩
  | 119 => ⟨S_, .f32⟩
  | 120 => ⟨S8x29, .f32⟩
  | 121 => ⟨S8x29, .f32⟩
  | 122 => ⟨S8x29, .f32⟩
  | 123 => ⟨S8x29, .f32⟩
  | 124 => ⟨S8x29, .f32⟩
  | 125 => ⟨S8x29, .f32⟩
  | 126 => ⟨S8x29, .f32⟩
  | 127 => ⟨S8x29x1, .i1⟩
  | _ => ⟨S1x64x512, .f32⟩

abbrev hbmTy0_2 (i : Nat) : BufTy := match i % 128 with
  | 0 => ⟨S8x1x64, .f32⟩
  | 1 => ⟨S8x29x64, .i1⟩
  | 2 => ⟨S8x29x64, .f32⟩
  | 3 => ⟨S8x29x64, .f32⟩
  | 4 => ⟨S8x29x1, .i1⟩
  | 5 => ⟨S8x1x64, .f32⟩
  | 6 => ⟨S8x29x64, .i1⟩
  | 7 => ⟨S8x29x64, .f32⟩
  | 8 => ⟨S8x29x64, .f32⟩
  | 9 => ⟨S_, .i32⟩
  | 10 => ⟨S_, .i1⟩
  | 11 => ⟨S_, .f32⟩
  | 12 => ⟨S8, .f32⟩
  | 13 => ⟨S8x1, .f32⟩
  | 14 => ⟨S8x29, .f32⟩
  | 15 => ⟨S8x29, .i1⟩
  | 16 => ⟨S_, .i32⟩
  | 17 => ⟨S_, .i32⟩
  | 18 => ⟨S8x29, .i32⟩
  | 19 => ⟨S8x29, .i32⟩
  | 20 => ⟨S8x29, .i32⟩
  | 21 => ⟨S_, .i32⟩
  | 22 => ⟨S8, .i32⟩
  | 23 => ⟨S8x1, .i32⟩
  | 24 => ⟨S8x29, .i32⟩
  | 25 => ⟨S8x29, .i32⟩
  | 26 => ⟨S8x29, .i1⟩
  | 27 => ⟨S8x29x1, .i1⟩
  | 28 => ⟨S_, .f32⟩
  | 29 => ⟨S_, .f32⟩
  | 30 => ⟨S8x29x64, .i1⟩
  | 31 => ⟨S8x29x64, .f32⟩
  | 32 => ⟨S8x29x64, .f32⟩
  | 33 => ⟨S_, .f32⟩
  | 34 => ⟨S8x64, .f32⟩
  | 35 => ⟨S8x29x1, .i1⟩
  | 36 => ⟨S_, .f32⟩
  | 37 => ⟨S_, .f32⟩
  | 38 => ⟨S8x29x64, .i1⟩
  | 39 => ⟨S8x29x64, .f32⟩
  | 40 => ⟨S8x29x64, .f32⟩
  | 41 => ⟨S_, .f32⟩
  | 42 => ⟨S8x64, .f32⟩
  | 43 => ⟨S_, .i1⟩
  | 44 => ⟨S_, .i1⟩
  | 45 => ⟨S_, .i1⟩
  | 46 => ⟨S_, .i1⟩
  | 47 => ⟨S8x29, .i1⟩
  | 48 => ⟨S8x29, .i1⟩
  | 49 => ⟨S_, .f32⟩
  | 50 => ⟨S_, .f32⟩
  | 51 => ⟨S8x29, .f32⟩
  | 52 => ⟨S8x29, .f32⟩
  | 53 => ⟨S_, .i32⟩
  | 54 => ⟨S_, .i32⟩
  | 55 => ⟨S_, .i32⟩
  | 56 => ⟨S8, .i32⟩
  | 57 => ⟨S8, .i32⟩
  | 58 => ⟨S_, .i32⟩
  | 59 => ⟨S_, .i1⟩
  | 60 => ⟨S8x64, .f32⟩
  | 61 => ⟨S_, .f32⟩
  | 62 => ⟨S8, .f32⟩
  | 63 => ⟨S8, .f32⟩
  | 64 => ⟨S_, .f32⟩
  | 65 => ⟨S8, .f32⟩
  | 66 => ⟨S8, .f32⟩
  | 67 => ⟨S8x14x64, .f32⟩
  | 68 => ⟨S_, .f32⟩
  | 69 => ⟨S8x14, .f32⟩
  | 70 => ⟨S8x14, .f32⟩
  | 71 => ⟨S_, .f32⟩
  | 72 => ⟨S8x14, .f32⟩
  | 73 => ⟨S8x14, .f32⟩
  | 74 => ⟨S8x1x64, .f32⟩
  | 75 => ⟨S8x14x64, .f32⟩
  | 76 => ⟨S8x14x64, .f32⟩
  | 77 => ⟨S_, .f32⟩
  | 78 => ⟨S8x14, .f32⟩
  | 79 => ⟨S8x1, .f32⟩
  | 80 => ⟨S8x14, .f32⟩
  | 81 => ⟨S8x14, .f32⟩
  | 82 => ⟨S8x14, .f32⟩
  | 83 => ⟨S_, .f32⟩
  | 84 => ⟨S8, .f32⟩
  | 85 => ⟨S8x1, .f32⟩
  | 86 => ⟨S8x14, .f32⟩
  | 87 => ⟨S8x14, .i1⟩
  | 88 => ⟨S_, .i32⟩
  | 89 => ⟨S_, .i32⟩
  | 90 => ⟨S8x14, .i32⟩
  | 91 => ⟨S8x14, .i32⟩
  | 92 => ⟨S8x14, .i32⟩
  | 93 => ⟨S_, .i32⟩
  | 94 => ⟨S8, .i32⟩
  | 95 => ⟨S_, .i32⟩
  | 96 => ⟨S8, .i32⟩
  | 97 => ⟨S8, .i32⟩
  | 98 => ⟨S8x1, .i32⟩
  | 99 => ⟨S8x14, .i32⟩
  | 100 => ⟨S8x14, .i32⟩
  | 101 => ⟨S8x14, .i1⟩
  | 102 => ⟨S_, .i1⟩
  | 103 => ⟨S_, .i1⟩
  | 104 => ⟨S_, .i1⟩
  | 105 => ⟨S_, .i1⟩
  | 106 => ⟨S8x14, .i1⟩
  | 107 => ⟨S8x14, .i1⟩
  | 108 => ⟨S8x14x1, .f32⟩
  | 109 => ⟨S8x14x1, .i1⟩
  | 110 => ⟨S8x1x64, .f32⟩
  | 111 => ⟨S8x14x64, .f32⟩
  | 112 => ⟨S8x14x64, .f32⟩
  | 113 => ⟨S8x1x64, .f32⟩
  | 114 => ⟨S8x14x64, .f32⟩
  | 115 => ⟨S8x14x64, .f32⟩
  | 116 => ⟨S_, .f32⟩
  | 117 => ⟨S8x14x1, .f32⟩
  | 118 => ⟨S8x14x1, .f32⟩
  | 119 => ⟨S8x14x64, .f32⟩
  | 120 => ⟨S8x14x64, .f32⟩
  | 121 => ⟨S8x14x64, .f32⟩
  | 122 => ⟨S8x14x64, .f32⟩
  | 123 => ⟨S8x14x64, .i1⟩
  | 124 => ⟨S8x14x64, .f32⟩
  | 125 => ⟨S8x14x1, .i1⟩
  | 126 => ⟨S8x1x64, .f32⟩
  | 127 => ⟨S8x14x64, .f32⟩
  | _ => ⟨S1x64x512, .f32⟩

abbrev hbmTy0_3 (i : Nat) : BufTy := match i % 128 with
  | 0 => ⟨S8x14x64, .f32⟩
  | 1 => ⟨S8x1x64, .f32⟩
  | 2 => ⟨S8x14x64, .f32⟩
  | 3 => ⟨S8x14x64, .f32⟩
  | 4 => ⟨S_, .f32⟩
  | 5 => ⟨S8x14x1, .f32⟩
  | 6 => ⟨S8x14x1, .f32⟩
  | 7 => ⟨S8x14x64, .f32⟩
  | 8 => ⟨S8x14x64, .f32⟩
  | 9 => ⟨S8x14x64, .f32⟩
  | 10 => ⟨S8x14x64, .f32⟩
  | 11 => ⟨S8x14x64, .i1⟩
  | 12 => ⟨S8x14x64, .f32⟩
  | 13 => ⟨S_, .f32⟩
  | 14 => ⟨S8x14, .f32⟩
  | 15 => ⟨S8x14, .f32⟩
  | 16 => ⟨S_, .f32⟩
  | 17 => ⟨S_, .f32⟩
  | 18 => ⟨S8x14, .f32⟩
  | 19 => ⟨S8x14, .f32⟩
  | 20 => ⟨S8x14, .f32⟩
  | 21 => ⟨S8x1x64, .f32⟩
  | 22 => ⟨S8x44x64, .f32⟩
  | 23 => ⟨S8x1x64, .f32⟩
  | 24 => ⟨S8x44x64, .f32⟩
  | 25 => ⟨S_, .f32⟩
  | 26 => ⟨S8x29, .f32⟩
  | 27 => ⟨S_, .f32⟩
  | 28 => ⟨S8x1, .f32⟩
  | 29 => ⟨S8x44, .f32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .f32⟩
  | 39 => ⟨S8x29, .f32⟩
  | 40 => ⟨S8x29, .i1⟩
  | 41 => ⟨S_, .i32⟩
  | 42 => ⟨S1x14, .i32⟩
  | 43 => ⟨S1x14, .i1⟩
  | 44 => ⟨S8x14, .i1⟩
  | 45 => ⟨S8x44, .i1⟩
  | 46 => ⟨S8x1x64, .f32⟩
  | 47 => ⟨S8x44x64, .f32⟩
  | 48 => ⟨S8x44x64, .f32⟩
  | 49 => ⟨S_, .f32⟩
  | 50 => ⟨S8x44, .f32⟩
  | 51 => ⟨S_, .f32⟩
  | 52 => ⟨S8x44, .f32⟩
  | 53 => ⟨S8x44, .f32⟩
  | 54 => ⟨S8x44, .f32⟩
  | 55 => ⟨S_, .f32⟩
  | 56 => ⟨S8x44, .f32⟩
  | 57 => ⟨S8x44, .f32⟩
  | 58 => ⟨S8x44, .f32⟩
  | 59 => ⟨S8x44, .f32⟩
  | 60 => ⟨S_, .f32⟩
  | 61 => ⟨S_, .f32⟩
  | 62 => ⟨S8x44, .f32⟩
  | 63 => ⟨S8x44, .f32⟩
  | 64 => ⟨S_, .f32⟩
  | 65 => ⟨S8, .f32⟩
  | 66 => ⟨S8x1, .f32⟩
  | 67 => ⟨S8x44, .f32⟩
  | 68 => ⟨S8x44, .f32⟩
  | 69 => ⟨S8x44x1, .f32⟩
  | 70 => ⟨S8x44x64, .f32⟩
  | 71 => ⟨S8x44x64, .f32⟩
  | 72 => ⟨S_, .f32⟩
  | 73 => ⟨S8x64, .f32⟩
  | 74 => ⟨S_, .i32⟩
  | 75 => ⟨S64x1x1, .i32⟩
  | 76 => ⟨S64x1x1, .i1⟩
  | 77 => ⟨S64x8x64, .i1⟩
  | 78 => ⟨S64x8x64, .f32⟩
  | 79 => ⟨S64x8x64, .f32⟩
  | 80 => ⟨S_, .i32⟩
  | 81 => ⟨S_, .i32⟩
  | 82 => ⟨S64x512, .f32⟩
  | 83 => ⟨S512x512, .f32⟩
  | 84 => ⟨S64x512, .f32⟩
  | 85 => ⟨S1x512, .f32⟩
  | 86 => ⟨S64x512, .f32⟩
  | 87 => ⟨S64x512, .f32⟩
  | 88 => ⟨S1x64x512, .f32⟩
  | _ => ⟨S1x64x512, .f32⟩

abbrev hbmTy (i : Nat) : BufTy := match i / 128 with
  | 0 => hbmTy0_0 i
  | 1 => hbmTy0_1 i
  | 2 => hbmTy0_2 i
  | 3 => hbmTy0_3 i
  | _ => ⟨S1x64x512, .f32⟩

abbrev bufTy : (tb : Table) → Fin (tcTables nBuf tb) → BufTy
  | .hbm, ⟨i, _⟩ => hbmTy i
  | _, _ => ⟨S1x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_0 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_v39 : Ref sig .tc := ⟨.hbm, 59, rfl⟩
abbrev main_cst_1 : Ref sig .tc := ⟨.hbm, 60, rfl⟩
abbrev main_cst_2 : Ref sig .tc := ⟨.hbm, 61, rfl⟩
abbrev main_call2_v0 : Ref sig .tc := ⟨.hbm, 62, rfl⟩
abbrev main_call2_v1 : Ref sig .tc := ⟨.hbm, 63, rfl⟩
abbrev main_v40 : Ref sig .tc := ⟨.hbm, 64, rfl⟩
abbrev main_c_3 : Ref sig .tc := ⟨.hbm, 65, rfl⟩
abbrev main_v41 : Ref sig .tc := ⟨.hbm, 66, rfl⟩
abbrev main_cst_4 : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_cst_6 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_c_8 : Ref sig .tc := ⟨.hbm, 75, rfl⟩
abbrev main_c_9 : Ref sig .tc := ⟨.hbm, 76, rfl⟩
abbrev main_v46_0 : Ref sig .tc := ⟨.hbm, 77, rfl⟩
abbrev main_v46_1 : Ref sig .tc := ⟨.hbm, 78, rfl⟩
abbrev main_v46_2 : Ref sig .tc := ⟨.hbm, 79, rfl⟩
abbrev main_v46_3 : Ref sig .tc := ⟨.hbm, 80, rfl⟩
abbrev main_v46_4 : Ref sig .tc := ⟨.hbm, 81, rfl⟩
abbrev main_v46_5 : Ref sig .tc := ⟨.hbm, 82, rfl⟩
abbrev main_v46_6 : Ref sig .tc := ⟨.hbm, 83, rfl⟩
abbrev main_v46_7 : Ref sig .tc := ⟨.hbm, 84, rfl⟩
abbrev main_v46_8 : Ref sig .tc := ⟨.hbm, 85, rfl⟩
abbrev main_v46_9 : Ref sig .tc := ⟨.hbm, 86, rfl⟩
abbrev main_v46_10 : Ref sig .tc := ⟨.hbm, 87, rfl⟩
abbrev main_v46_11 : Ref sig .tc := ⟨.hbm, 88, rfl⟩
abbrev main_v46_12 : Ref sig .tc := ⟨.hbm, 89, rfl⟩
abbrev main_v46_13 : Ref sig .tc := ⟨.hbm, 90, rfl⟩
abbrev main_v46_14 : Ref sig .tc := ⟨.hbm, 91, rfl⟩
abbrev main_v46_15 : Ref sig .tc := ⟨.hbm, 92, rfl⟩
abbrev main_while0c_c_25 : Ref sig .tc := ⟨.hbm, 93, rfl⟩
abbrev main_while0c_v54 : Ref sig .tc := ⟨.hbm, 94, rfl⟩
abbrev main_while0b_c_25 : Ref sig .tc := ⟨.hbm, 95, rfl⟩
abbrev main_while0b_v54 : Ref sig .tc := ⟨.hbm, 96, rfl⟩
abbrev main_while0b_v55 : Ref sig .tc := ⟨.hbm, 97, rfl⟩
abbrev main_while0b_c_26 : Ref sig .tc := ⟨.hbm, 98, rfl⟩
abbrev main_while0b_v56 : Ref sig .tc := ⟨.hbm, 99, rfl⟩
abbrev main_while0b_c_27 : Ref sig .tc := ⟨.hbm, 100, rfl⟩
abbrev main_while0b_v57 : Ref sig .tc := ⟨.hbm, 101, rfl⟩
abbrev main_while0b_v58 : Ref sig .tc := ⟨.hbm, 102, rfl⟩
abbrev main_while0b_c_28 : Ref sig .tc := ⟨.hbm, 103, rfl⟩
abbrev main_while0b_c_29 : Ref sig .tc := ⟨.hbm, 104, rfl⟩
abbrev main_while0b_v59 : Ref sig .tc := ⟨.hbm, 105, rfl⟩
abbrev main_while0b_c_30 : Ref sig .tc := ⟨.hbm, 106, rfl⟩
abbrev main_while0b_c_31 : Ref sig .tc := ⟨.hbm, 107, rfl⟩
abbrev main_while0b_v60 : Ref sig .tc := ⟨.hbm, 108, rfl⟩
abbrev main_while0b_c_32 : Ref sig .tc := ⟨.hbm, 109, rfl⟩
abbrev main_while0b_v61 : Ref sig .tc := ⟨.hbm, 110, rfl⟩
abbrev main_while0b_c_33 : Ref sig .tc := ⟨.hbm, 111, rfl⟩
abbrev main_while0b_c_34 : Ref sig .tc := ⟨.hbm, 112, rfl⟩
abbrev main_while0b_v62 : Ref sig .tc := ⟨.hbm, 113, rfl⟩
abbrev main_while0b_c_35 : Ref sig .tc := ⟨.hbm, 114, rfl⟩
abbrev main_while0b_c_36 : Ref sig .tc := ⟨.hbm, 115, rfl⟩
abbrev main_while0b_v63 : Ref sig .tc := ⟨.hbm, 116, rfl⟩
abbrev main_while0b_c_37 : Ref sig .tc := ⟨.hbm, 117, rfl⟩
abbrev main_while0b_v64 : Ref sig .tc := ⟨.hbm, 118, rfl⟩
abbrev main_while0b_v65 : Ref sig .tc := ⟨.hbm, 119, rfl⟩
abbrev main_while0b_v66 : Ref sig .tc := ⟨.hbm, 120, rfl⟩
abbrev main_while0b_v67 : Ref sig .tc := ⟨.hbm, 121, rfl⟩
abbrev main_while0b_c_38 : Ref sig .tc := ⟨.hbm, 122, rfl⟩
abbrev main_while0b_v68 : Ref sig .tc := ⟨.hbm, 123, rfl⟩
abbrev main_while0b_c_39 : Ref sig .tc := ⟨.hbm, 124, rfl⟩
abbrev main_while0b_v69 : Ref sig .tc := ⟨.hbm, 125, rfl⟩
abbrev main_while0b_v70 : Ref sig .tc := ⟨.hbm, 126, rfl⟩
abbrev main_while0b_c_40 : Ref sig .tc := ⟨.hbm, 127, rfl⟩
abbrev main_while0b_c_41 : Ref sig .tc := ⟨.hbm, 128, rfl⟩
abbrev main_while0b_v71 : Ref sig .tc := ⟨.hbm, 129, rfl⟩
abbrev main_while0b_c_42 : Ref sig .tc := ⟨.hbm, 130, rfl⟩
abbrev main_while0b_c_43 : Ref sig .tc := ⟨.hbm, 131, rfl⟩
abbrev main_while0b_v72 : Ref sig .tc := ⟨.hbm, 132, rfl⟩
abbrev main_while0b_c_44 : Ref sig .tc := ⟨.hbm, 133, rfl⟩
abbrev main_while0b_v73 : Ref sig .tc := ⟨.hbm, 134, rfl⟩
abbrev main_while0b_c_45 : Ref sig .tc := ⟨.hbm, 135, rfl⟩
abbrev main_while0b_c_46 : Ref sig .tc := ⟨.hbm, 136, rfl⟩
abbrev main_while0b_v74 : Ref sig .tc := ⟨.hbm, 137, rfl⟩
abbrev main_while0b_c_47 : Ref sig .tc := ⟨.hbm, 138, rfl⟩
abbrev main_while0b_c_48 : Ref sig .tc := ⟨.hbm, 139, rfl⟩
abbrev main_while0b_v75 : Ref sig .tc := ⟨.hbm, 140, rfl⟩
abbrev main_while0b_c_49 : Ref sig .tc := ⟨.hbm, 141, rfl⟩
abbrev main_while0b_v76 : Ref sig .tc := ⟨.hbm, 142, rfl⟩
abbrev main_while0b_v77 : Ref sig .tc := ⟨.hbm, 143, rfl⟩
abbrev main_while0b_v78 : Ref sig .tc := ⟨.hbm, 144, rfl⟩
abbrev main_while0b_v79 : Ref sig .tc := ⟨.hbm, 145, rfl⟩
abbrev main_while0b_c_50 : Ref sig .tc := ⟨.hbm, 146, rfl⟩
abbrev main_while0b_v80 : Ref sig .tc := ⟨.hbm, 147, rfl⟩
abbrev main_while0b_c_51 : Ref sig .tc := ⟨.hbm, 148, rfl⟩
abbrev main_while0b_v81 : Ref sig .tc := ⟨.hbm, 149, rfl⟩
abbrev main_while0b_v82 : Ref sig .tc := ⟨.hbm, 150, rfl⟩
abbrev main_while0b_c_52 : Ref sig .tc := ⟨.hbm, 151, rfl⟩
abbrev main_while0b_c_53 : Ref sig .tc := ⟨.hbm, 152, rfl⟩
abbrev main_while0b_v83 : Ref sig .tc := ⟨.hbm, 153, rfl⟩
abbrev main_while0b_c_54 : Ref sig .tc := ⟨.hbm, 154, rfl⟩
abbrev main_while0b_c_55 : Ref sig .tc := ⟨.hbm, 155, rfl⟩
abbrev main_while0b_v84 : Ref sig .tc := ⟨.hbm, 156, rfl⟩
abbrev main_while0b_c_56 : Ref sig .tc := ⟨.hbm, 157, rfl⟩
abbrev main_while0b_v85 : Ref sig .tc := ⟨.hbm, 158, rfl⟩
abbrev main_while0b_c_57 : Ref sig .tc := ⟨.hbm, 159, rfl⟩
abbrev main_while0b_c_58 : Ref sig .tc := ⟨.hbm, 160, rfl⟩
abbrev main_while0b_v86 : Ref sig .tc := ⟨.hbm, 161, rfl⟩
abbrev main_while0b_c_59 : Ref sig .tc := ⟨.hbm, 162, rfl⟩
abbrev main_while0b_c_60 : Ref sig .tc := ⟨.hbm, 163, rfl⟩
abbrev main_while0b_v87 : Ref sig .tc := ⟨.hbm, 164, rfl⟩
abbrev main_while0b_c_61 : Ref sig .tc := ⟨.hbm, 165, rfl⟩
abbrev main_while0b_v88 : Ref sig .tc := ⟨.hbm, 166, rfl⟩
abbrev main_while0b_v89 : Ref sig .tc := ⟨.hbm, 167, rfl⟩
abbrev main_while0b_v90 : Ref sig .tc := ⟨.hbm, 168, rfl⟩
abbrev main_while0b_c_62 : Ref sig .tc := ⟨.hbm, 169, rfl⟩
abbrev main_while0b_v91 : Ref sig .tc := ⟨.hbm, 170, rfl⟩
abbrev main_while0b_v92 : Ref sig .tc := ⟨.hbm, 171, rfl⟩
abbrev main_while0b_c_63 : Ref sig .tc := ⟨.hbm, 172, rfl⟩
abbrev main_while0b_v93 : Ref sig .tc := ⟨.hbm, 173, rfl⟩
abbrev main_while0b_c_64 : Ref sig .tc := ⟨.hbm, 174, rfl⟩
abbrev main_while0b_v94 : Ref sig .tc := ⟨.hbm, 175, rfl⟩
abbrev main_while0b_v95 : Ref sig .tc := ⟨.hbm, 176, rfl⟩
abbrev main_while0b_c_65 : Ref sig .tc := ⟨.hbm, 177, rfl⟩
abbrev main_while0b_c_66 : Ref sig .tc := ⟨.hbm, 178, rfl⟩
abbrev main_while0b_v96 : Ref sig .tc := ⟨.hbm, 179, rfl⟩
abbrev main_while0b_c_67 : Ref sig .tc := ⟨.hbm, 180, rfl⟩
abbrev main_while0b_c_68 : Ref sig .tc := ⟨.hbm, 181, rfl⟩
abbrev main_while0b_v97 : Ref sig .tc := ⟨.hbm, 182, rfl⟩
abbrev main_while0b_c_69 : Ref sig .tc := ⟨.hbm, 183, rfl⟩
abbrev main_while0b_v98 : Ref sig .tc := ⟨.hbm, 184, rfl⟩
abbrev main_while0b_c_70 : Ref sig .tc := ⟨.hbm, 185, rfl⟩
abbrev main_while0b_c_71 : Ref sig .tc := ⟨.hbm, 186, rfl⟩
abbrev main_while0b_v99 : Ref sig .tc := ⟨.hbm, 187, rfl⟩
abbrev main_while0b_c_72 : Ref sig .tc := ⟨.hbm, 188, rfl⟩
abbrev main_while0b_c_73 : Ref sig .tc := ⟨.hbm, 189, rfl⟩
abbrev main_while0b_v100 : Ref sig .tc := ⟨.hbm, 190, rfl⟩
abbrev main_while0b_c_74 : Ref sig .tc := ⟨.hbm, 191, rfl⟩
abbrev main_while0b_v101 : Ref sig .tc := ⟨.hbm, 192, rfl⟩
abbrev main_while0b_v102 : Ref sig .tc := ⟨.hbm, 193, rfl⟩
abbrev main_while0b_v103 : Ref sig .tc := ⟨.hbm, 194, rfl⟩
abbrev main_while0b_c_75 : Ref sig .tc := ⟨.hbm, 195, rfl⟩
abbrev main_while0b_v104 : Ref sig .tc := ⟨.hbm, 196, rfl⟩
abbrev main_while0b_c_76 : Ref sig .tc := ⟨.hbm, 197, rfl⟩
abbrev main_while0b_c_77 : Ref sig .tc := ⟨.hbm, 198, rfl⟩
abbrev main_while0b_call3_v0 : Ref sig .tc := ⟨.hbm, 199, rfl⟩
abbrev main_while0b_v105 : Ref sig .tc := ⟨.hbm, 200, rfl⟩
abbrev main_while0b_c_78 : Ref sig .tc := ⟨.hbm, 201, rfl⟩
abbrev main_while0b_v106 : Ref sig .tc := ⟨.hbm, 202, rfl⟩
abbrev main_while0b_v107 : Ref sig .tc := ⟨.hbm, 203, rfl⟩
abbrev main_while0b_v108 : Ref sig .tc := ⟨.hbm, 204, rfl⟩
abbrev main_while0b_cst_79 : Ref sig .tc := ⟨.hbm, 205, rfl⟩
abbrev main_while0b_v109 : Ref sig .tc := ⟨.hbm, 206, rfl⟩
abbrev main_while0b_v110 : Ref sig .tc := ⟨.hbm, 207, rfl⟩
abbrev main_while0b_v111 : Ref sig .tc := ⟨.hbm, 208, rfl⟩
abbrev main_while0b_v112 : Ref sig .tc := ⟨.hbm, 209, rfl⟩
abbrev main_while0b_v113 : Ref sig .tc := ⟨.hbm, 210, rfl⟩
abbrev main_while0b_v114 : Ref sig .tc := ⟨.hbm, 211, rfl⟩
abbrev main_while0b_c_80 : Ref sig .tc := ⟨.hbm, 212, rfl⟩
abbrev main_while0b_v115 : Ref sig .tc := ⟨.hbm, 213, rfl⟩
abbrev main_while0b_v116 : Ref sig .tc := ⟨.hbm, 214, rfl⟩
abbrev main_while0b_v117 : Ref sig .tc := ⟨.hbm, 215, rfl⟩
abbrev main_while0b_v118 : Ref sig .tc := ⟨.hbm, 216, rfl⟩
abbrev main_while0b_v119 : Ref sig .tc := ⟨.hbm, 217, rfl⟩
abbrev main_while0b_v120 : Ref sig .tc := ⟨.hbm, 218, rfl⟩
abbrev main_while0b_v121 : Ref sig .tc := ⟨.hbm, 219, rfl⟩
abbrev main_while0b_cst_81 : Ref sig .tc := ⟨.hbm, 220, rfl⟩
abbrev main_while0b_v122 : Ref sig .tc := ⟨.hbm, 221, rfl⟩
abbrev main_while0b_cst_82 : Ref sig .tc := ⟨.hbm, 222, rfl⟩
abbrev main_while0b_v123 : Ref sig .tc := ⟨.hbm, 223, rfl⟩
abbrev main_while0b_v124 : Ref sig .tc := ⟨.hbm, 224, rfl⟩
abbrev main_while0b_v125 : Ref sig .tc := ⟨.hbm, 225, rfl⟩
abbrev main_while0b_cst_83 : Ref sig .tc := ⟨.hbm, 226, rfl⟩
abbrev main_while0b_call4_v0 : Ref sig .tc := ⟨.hbm, 227, rfl⟩
abbrev main_while0b_call4_v1 : Ref sig .tc := ⟨.hbm, 228, rfl⟩
abbrev main_while0b_v126 : Ref sig .tc := ⟨.hbm, 229, rfl⟩
abbrev main_while0b_cst_84 : Ref sig .tc := ⟨.hbm, 230, rfl⟩
abbrev main_while0b_v127 : Ref sig .tc := ⟨.hbm, 231, rfl⟩
abbrev main_while0b_v128 : Ref sig .tc := ⟨.hbm, 232, rfl⟩
abbrev main_while0b_v129 : Ref sig .tc := ⟨.hbm, 233, rfl⟩
abbrev main_while0b_v130 : Ref sig .tc := ⟨.hbm, 234, rfl⟩
abbrev main_while0b_v131 : Ref sig .tc := ⟨.hbm, 235, rfl⟩
abbrev main_while0b_v132 : Ref sig .tc := ⟨.hbm, 236, rfl⟩
abbrev main_while0b_v133 : Ref sig .tc := ⟨.hbm, 237, rfl⟩
abbrev main_while0b_v134 : Ref sig .tc := ⟨.hbm, 238, rfl⟩
abbrev main_while0b_c_85 : Ref sig .tc := ⟨.hbm, 239, rfl⟩
abbrev main_while0b_v135 : Ref sig .tc := ⟨.hbm, 240, rfl⟩
abbrev main_while0b_v136 : Ref sig .tc := ⟨.hbm, 241, rfl⟩
abbrev main_while0b_v137 : Ref sig .tc := ⟨.hbm, 242, rfl⟩
abbrev main_while0b_v138 : Ref sig .tc := ⟨.hbm, 243, rfl⟩
abbrev main_while0b_v139 : Ref sig .tc := ⟨.hbm, 244, rfl⟩
abbrev main_while0b_v140 : Ref sig .tc := ⟨.hbm, 245, rfl⟩
abbrev main_while0b_v141 : Ref sig .tc := ⟨.hbm, 246, rfl⟩
abbrev main_while0b_cst_86 : Ref sig .tc := ⟨.hbm, 247, rfl⟩
abbrev main_while0b_v142 : Ref sig .tc := ⟨.hbm, 248, rfl⟩
abbrev main_while0b_v143 : Ref sig .tc := ⟨.hbm, 249, rfl⟩
abbrev main_while0b_v144 : Ref sig .tc := ⟨.hbm, 250, rfl⟩
abbrev main_while0b_v145 : Ref sig .tc := ⟨.hbm, 251, rfl⟩
abbrev main_while0b_v146 : Ref sig .tc := ⟨.hbm, 252, rfl⟩
abbrev main_while0b_call6_v0 : Ref sig .tc := ⟨.hbm, 253, rfl⟩
abbrev main_while0b_v147 : Ref sig .tc := ⟨.hbm, 254, rfl⟩
abbrev main_while0b_v148 : Ref sig .tc := ⟨.hbm, 255, rfl⟩
abbrev main_while0b_v149 : Ref sig .tc := ⟨.hbm, 256, rfl⟩
abbrev main_while0b_call7_v0 : Ref sig .tc := ⟨.hbm, 257, rfl⟩
abbrev main_while0b_call7_v1 : Ref sig .tc := ⟨.hbm, 258, rfl⟩
abbrev main_while0b_v150 : Ref sig .tc := ⟨.hbm, 259, rfl⟩
abbrev main_while0b_v151 : Ref sig .tc := ⟨.hbm, 260, rfl⟩
abbrev main_while0b_v152 : Ref sig .tc := ⟨.hbm, 261, rfl⟩
abbrev main_while0b_call8_v0 : Ref sig .tc := ⟨.hbm, 262, rfl⟩
abbrev main_while0b_call8_v1 : Ref sig .tc := ⟨.hbm, 263, rfl⟩
abbrev main_while0b_v153 : Ref sig .tc := ⟨.hbm, 264, rfl⟩
abbrev main_while0b_c_87 : Ref sig .tc := ⟨.hbm, 265, rfl⟩
abbrev main_while0b_v154 : Ref sig .tc := ⟨.hbm, 266, rfl⟩
abbrev main_while0b_cst_88 : Ref sig .tc := ⟨.hbm, 267, rfl⟩
abbrev main_while0b_v155 : Ref sig .tc := ⟨.hbm, 268, rfl⟩
abbrev main_while0b_v156 : Ref sig .tc := ⟨.hbm, 269, rfl⟩
abbrev main_while0b_v157 : Ref sig .tc := ⟨.hbm, 270, rfl⟩
abbrev main_while0b_v158 : Ref sig .tc := ⟨.hbm, 271, rfl⟩
abbrev main_while0b_c_89 : Ref sig .tc := ⟨.hbm, 272, rfl⟩
abbrev main_while0b_call9_v0 : Ref sig .tc := ⟨.hbm, 273, rfl⟩
abbrev main_while0b_call9_v1 : Ref sig .tc := ⟨.hbm, 274, rfl⟩
abbrev main_while0b_call9_v2 : Ref sig .tc := ⟨.hbm, 275, rfl⟩
abbrev main_while0b_v159 : Ref sig .tc := ⟨.hbm, 276, rfl⟩
abbrev main_while0b_c_90 : Ref sig .tc := ⟨.hbm, 277, rfl⟩
abbrev main_while0b_v160 : Ref sig .tc := ⟨.hbm, 278, rfl⟩
abbrev main_while0b_v161 : Ref sig .tc := ⟨.hbm, 279, rfl⟩
abbrev main_while0b_v162 : Ref sig .tc := ⟨.hbm, 280, rfl⟩
abbrev main_while0b_v163 : Ref sig .tc := ⟨.hbm, 281, rfl⟩
abbrev main_while0b_v164 : Ref sig .tc := ⟨.hbm, 282, rfl⟩
abbrev main_while0b_v165 : Ref sig .tc := ⟨.hbm, 283, rfl⟩
abbrev main_while0b_cst_91 : Ref sig .tc := ⟨.hbm, 284, rfl⟩
abbrev main_while0b_call10_v0 : Ref sig .tc := ⟨.hbm, 285, rfl⟩
abbrev main_while0b_call10_v1 : Ref sig .tc := ⟨.hbm, 286, rfl⟩
abbrev main_while0b_call10_v2 : Ref sig .tc := ⟨.hbm, 287, rfl⟩
abbrev main_while0b_v166 : Ref sig .tc := ⟨.hbm, 288, rfl⟩
abbrev main_while0b_cst_92 : Ref sig .tc := ⟨.hbm, 289, rfl⟩
abbrev main_while0b_v167 : Ref sig .tc := ⟨.hbm, 290, rfl⟩
abbrev main_while0b_v168 : Ref sig .tc := ⟨.hbm, 291, rfl⟩
abbrev main_while0b_cst_93 : Ref sig .tc := ⟨.hbm, 292, rfl⟩
abbrev main_while0b_call11_v0 : Ref sig .tc := ⟨.hbm, 293, rfl⟩
abbrev main_while0b_call11_v1 : Ref sig .tc := ⟨.hbm, 294, rfl⟩
abbrev main_while0b_call11_v2 : Ref sig .tc := ⟨.hbm, 295, rfl⟩
abbrev main_while0b_v169 : Ref sig .tc := ⟨.hbm, 296, rfl⟩
abbrev main_while0b_cst_94 : Ref sig .tc := ⟨.hbm, 297, rfl⟩
abbrev main_while0b_v170 : Ref sig .tc := ⟨.hbm, 298, rfl⟩
abbrev main_while0b_c_95 : Ref sig .tc := ⟨.hbm, 299, rfl⟩
abbrev main_while0b_v171 : Ref sig .tc := ⟨.hbm, 300, rfl⟩
abbrev main_while0b_v172 : Ref sig .tc := ⟨.hbm, 301, rfl⟩
abbrev main_while0b_v173 : Ref sig .tc := ⟨.hbm, 302, rfl⟩
abbrev main_while0b_v174 : Ref sig .tc := ⟨.hbm, 303, rfl⟩
abbrev main_while0b_v175 : Ref sig .tc := ⟨.hbm, 304, rfl⟩
abbrev main_while0b_cst_96 : Ref sig .tc := ⟨.hbm, 305, rfl⟩
abbrev main_while0b_call12_v0 : Ref sig .tc := ⟨.hbm, 306, rfl⟩
abbrev main_while0b_call12_v1 : Ref sig .tc := ⟨.hbm, 307, rfl⟩
abbrev main_while0b_v176 : Ref sig .tc := ⟨.hbm, 308, rfl⟩
abbrev main_while0b_c_97 : Ref sig .tc := ⟨.hbm, 309, rfl⟩
abbrev main_while0b_v177 : Ref sig .tc := ⟨.hbm, 310, rfl⟩
abbrev main_while0b_call13_v0 : Ref sig .tc := ⟨.hbm, 311, rfl⟩
abbrev main_while0b_call13_v1 : Ref sig .tc := ⟨.hbm, 312, rfl⟩
abbrev main_while0b_v178 : Ref sig .tc := ⟨.hbm, 313, rfl⟩
abbrev main_while0b_c_98 : Ref sig .tc := ⟨.hbm, 314, rfl⟩
abbrev main_while0b_v179 : Ref sig .tc := ⟨.hbm, 315, rfl⟩
abbrev main_while0b_v180 : Ref sig .tc := ⟨.hbm, 316, rfl⟩
abbrev main_while0b_cst_99 : Ref sig .tc := ⟨.hbm, 317, rfl⟩
abbrev main_while0b_v181 : Ref sig .tc := ⟨.hbm, 318, rfl⟩
abbrev main_while0b_v182 : Ref sig .tc := ⟨.hbm, 319, rfl⟩
abbrev main_while0b_cst_100 : Ref sig .tc := ⟨.hbm, 320, rfl⟩
abbrev main_while0b_v183 : Ref sig .tc := ⟨.hbm, 321, rfl⟩
abbrev main_while0b_v184 : Ref sig .tc := ⟨.hbm, 322, rfl⟩
abbrev main_while0b_v185 : Ref sig .tc := ⟨.hbm, 323, rfl⟩
abbrev main_while0b_cst_101 : Ref sig .tc := ⟨.hbm, 324, rfl⟩
abbrev main_while0b_v186 : Ref sig .tc := ⟨.hbm, 325, rfl⟩
abbrev main_while0b_v187 : Ref sig .tc := ⟨.hbm, 326, rfl⟩
abbrev main_while0b_cst_102 : Ref sig .tc := ⟨.hbm, 327, rfl⟩
abbrev main_while0b_v188 : Ref sig .tc := ⟨.hbm, 328, rfl⟩
abbrev main_while0b_v189 : Ref sig .tc := ⟨.hbm, 329, rfl⟩
abbrev main_while0b_v190 : Ref sig .tc := ⟨.hbm, 330, rfl⟩
abbrev main_while0b_v191 : Ref sig .tc := ⟨.hbm, 331, rfl⟩
abbrev main_while0b_v192 : Ref sig .tc := ⟨.hbm, 332, rfl⟩
abbrev main_while0b_cst_103 : Ref sig .tc := ⟨.hbm, 333, rfl⟩
abbrev main_while0b_v193 : Ref sig .tc := ⟨.hbm, 334, rfl⟩
abbrev main_while0b_v194 : Ref sig .tc := ⟨.hbm, 335, rfl⟩
abbrev main_while0b_v195 : Ref sig .tc := ⟨.hbm, 336, rfl⟩
abbrev main_while0b_v196 : Ref sig .tc := ⟨.hbm, 337, rfl⟩
abbrev main_while0b_v197 : Ref sig .tc := ⟨.hbm, 338, rfl⟩
abbrev main_while0b_cst_104 : Ref sig .tc := ⟨.hbm, 339, rfl⟩
abbrev main_while0b_v198 : Ref sig .tc := ⟨.hbm, 340, rfl⟩
abbrev main_while0b_v199 : Ref sig .tc := ⟨.hbm, 341, rfl⟩
abbrev main_while0b_v200 : Ref sig .tc := ⟨.hbm, 342, rfl⟩
abbrev main_while0b_v201 : Ref sig .tc := ⟨.hbm, 343, rfl⟩
abbrev main_while0b_c_105 : Ref sig .tc := ⟨.hbm, 344, rfl⟩
abbrev main_while0b_call14_v0 : Ref sig .tc := ⟨.hbm, 345, rfl⟩
abbrev main_while0b_call14_v1 : Ref sig .tc := ⟨.hbm, 346, rfl⟩
abbrev main_while0b_call14_v2 : Ref sig .tc := ⟨.hbm, 347, rfl⟩
abbrev main_while0b_v202 : Ref sig .tc := ⟨.hbm, 348, rfl⟩
abbrev main_while0b_c_106 : Ref sig .tc := ⟨.hbm, 349, rfl⟩
abbrev main_while0b_v203 : Ref sig .tc := ⟨.hbm, 350, rfl⟩
abbrev main_while0b_call15_v0 : Ref sig .tc := ⟨.hbm, 351, rfl⟩
abbrev main_while0b_call15_v1 : Ref sig .tc := ⟨.hbm, 352, rfl⟩
abbrev main_while0b_v204 : Ref sig .tc := ⟨.hbm, 353, rfl⟩
abbrev main_while0b_v205 : Ref sig .tc := ⟨.hbm, 354, rfl⟩
abbrev main_while0b_v206 : Ref sig .tc := ⟨.hbm, 355, rfl⟩
abbrev main_while0b_v207 : Ref sig .tc := ⟨.hbm, 356, rfl⟩
abbrev main_while0b_v208 : Ref sig .tc := ⟨.hbm, 357, rfl⟩
abbrev main_while0b_c_107 : Ref sig .tc := ⟨.hbm, 358, rfl⟩
abbrev main_while0b_v209 : Ref sig .tc := ⟨.hbm, 359, rfl⟩
abbrev main_while0b_v210 : Ref sig .tc := ⟨.hbm, 360, rfl⟩
abbrev main_while0b_v211 : Ref sig .tc := ⟨.hbm, 361, rfl⟩
abbrev main_while0b_v212 : Ref sig .tc := ⟨.hbm, 362, rfl⟩
abbrev main_while0b_v213 : Ref sig .tc := ⟨.hbm, 363, rfl⟩
abbrev main_while0b_v214 : Ref sig .tc := ⟨.hbm, 364, rfl⟩
abbrev main_while0b_v215 : Ref sig .tc := ⟨.hbm, 365, rfl⟩
abbrev main_while0b_v216 : Ref sig .tc := ⟨.hbm, 366, rfl⟩
abbrev main_while0b_v217 : Ref sig .tc := ⟨.hbm, 367, rfl⟩
abbrev main_while0b_v218 : Ref sig .tc := ⟨.hbm, 368, rfl⟩
abbrev main_while0b_v219 : Ref sig .tc := ⟨.hbm, 369, rfl⟩
abbrev main_while0b_v220 : Ref sig .tc := ⟨.hbm, 370, rfl⟩
abbrev main_while0b_v221 : Ref sig .tc := ⟨.hbm, 371, rfl⟩
abbrev main_while0b_cst_108 : Ref sig .tc := ⟨.hbm, 372, rfl⟩
abbrev main_while0b_v222 : Ref sig .tc := ⟨.hbm, 373, rfl⟩
abbrev main_while0b_v223 : Ref sig .tc := ⟨.hbm, 374, rfl⟩
abbrev main_while0b_v224 : Ref sig .tc := ⟨.hbm, 375, rfl⟩
abbrev main_while0b_v225 : Ref sig .tc := ⟨.hbm, 376, rfl⟩
abbrev main_while0b_call16_v0 : Ref sig .tc := ⟨.hbm, 377, rfl⟩
abbrev main_while0b_v226 : Ref sig .tc := ⟨.hbm, 378, rfl⟩
abbrev main_while0b_call17_v0 : Ref sig .tc := ⟨.hbm, 379, rfl⟩
abbrev main_while0b_v227 : Ref sig .tc := ⟨.hbm, 380, rfl⟩
abbrev main_while0b_v228 : Ref sig .tc := ⟨.hbm, 381, rfl⟩
abbrev main_while0b_v229 : Ref sig .tc := ⟨.hbm, 382, rfl⟩
abbrev main_while0b_v230 : Ref sig .tc := ⟨.hbm, 383, rfl⟩
abbrev main_while0b_v231 : Ref sig .tc := ⟨.hbm, 384, rfl⟩
abbrev main_while0b_v232 : Ref sig .tc := ⟨.hbm, 385, rfl⟩
abbrev main_while0b_v233 : Ref sig .tc := ⟨.hbm, 386, rfl⟩
abbrev main_while0b_v234 : Ref sig .tc := ⟨.hbm, 387, rfl⟩
abbrev main_while0b_cst_109 : Ref sig .tc := ⟨.hbm, 388, rfl⟩
abbrev main_while0b_v235 : Ref sig .tc := ⟨.hbm, 389, rfl⟩
abbrev main_while0b_v236 : Ref sig .tc := ⟨.hbm, 390, rfl⟩
abbrev main_while0b_v237 : Ref sig .tc := ⟨.hbm, 391, rfl⟩
abbrev main_while0b_v238 : Ref sig .tc := ⟨.hbm, 392, rfl⟩
abbrev main_while0b_call18_v0 : Ref sig .tc := ⟨.hbm, 393, rfl⟩
abbrev main_while0b_v239 : Ref sig .tc := ⟨.hbm, 394, rfl⟩
abbrev main_while0b_call19_v0 : Ref sig .tc := ⟨.hbm, 395, rfl⟩
abbrev main_while0b_v240 : Ref sig .tc := ⟨.hbm, 396, rfl⟩
abbrev main_while0b_cst_110 : Ref sig .tc := ⟨.hbm, 397, rfl⟩
abbrev main_while0b_v241 : Ref sig .tc := ⟨.hbm, 398, rfl⟩
abbrev main_while0b_v242 : Ref sig .tc := ⟨.hbm, 399, rfl⟩
abbrev main_while0b_cst_111 : Ref sig .tc := ⟨.hbm, 400, rfl⟩
abbrev main_while0b_call20_v0 : Ref sig .tc := ⟨.hbm, 401, rfl⟩
abbrev main_while0b_call20_v1 : Ref sig .tc := ⟨.hbm, 402, rfl⟩
abbrev main_while0b_v243 : Ref sig .tc := ⟨.hbm, 403, rfl⟩
abbrev main_while0b_v244 : Ref sig .tc := ⟨.hbm, 404, rfl⟩
abbrev main_while0b_v245 : Ref sig .tc := ⟨.hbm, 405, rfl⟩
abbrev main_while0b_v246 : Ref sig .tc := ⟨.hbm, 406, rfl⟩
abbrev main_while0b_v247 : Ref sig .tc := ⟨.hbm, 407, rfl⟩
abbrev main_while0b_v248 : Ref sig .tc := ⟨.hbm, 408, rfl⟩
abbrev main_while0b_cst_112 : Ref sig .tc := ⟨.hbm, 409, rfl⟩
abbrev main_while0b_v249 : Ref sig .tc := ⟨.hbm, 410, rfl⟩
abbrev main_while0b_cst_113 : Ref sig .tc := ⟨.hbm, 411, rfl⟩
abbrev main_while0b_v250 : Ref sig .tc := ⟨.hbm, 412, rfl⟩
abbrev main_while0b_v251 : Ref sig .tc := ⟨.hbm, 413, rfl⟩
abbrev main_while0b_c_114 : Ref sig .tc := ⟨.hbm, 414, rfl⟩
abbrev main_while0b_v252 : Ref sig .tc := ⟨.hbm, 415, rfl⟩
abbrev main_while0b_c_115 : Ref sig .tc := ⟨.hbm, 416, rfl⟩
abbrev main_while0b_v253 : Ref sig .tc := ⟨.hbm, 417, rfl⟩
abbrev main_while0b_c_116 : Ref sig .tc := ⟨.hbm, 418, rfl⟩
abbrev main_while0b_c_117 : Ref sig .tc := ⟨.hbm, 419, rfl⟩
abbrev main_while0b_call22_v0 : Ref sig .tc := ⟨.hbm, 420, rfl⟩
abbrev main_while0b_v254 : Ref sig .tc := ⟨.hbm, 421, rfl⟩
abbrev main_while0b_cst_118 : Ref sig .tc := ⟨.hbm, 422, rfl⟩
abbrev main_while0b_v255 : Ref sig .tc := ⟨.hbm, 423, rfl⟩
abbrev main_while0b_v256 : Ref sig .tc := ⟨.hbm, 424, rfl⟩
abbrev main_while0b_v257 : Ref sig .tc := ⟨.hbm, 425, rfl⟩
abbrev main_while0b_v258 : Ref sig .tc := ⟨.hbm, 426, rfl⟩
abbrev main_while0b_v259 : Ref sig .tc := ⟨.hbm, 427, rfl⟩
abbrev main_while0b_v260 : Ref sig .tc := ⟨.hbm, 428, rfl⟩
abbrev main_while0b_v261 : Ref sig .tc := ⟨.hbm, 429, rfl⟩
abbrev main_while0b_v262 : Ref sig .tc := ⟨.hbm, 430, rfl⟩
abbrev main_while0b_v263 : Ref sig .tc := ⟨.hbm, 431, rfl⟩
abbrev main_while0b_v264 : Ref sig .tc := ⟨.hbm, 432, rfl⟩
abbrev main_while0b_cst_119 : Ref sig .tc := ⟨.hbm, 433, rfl⟩
abbrev main_while0b_v265 : Ref sig .tc := ⟨.hbm, 434, rfl⟩
abbrev main_while0b_cst_120 : Ref sig .tc := ⟨.hbm, 435, rfl⟩
abbrev main_while0b_v266 : Ref sig .tc := ⟨.hbm, 436, rfl⟩
abbrev main_while0b_v267 : Ref sig .tc := ⟨.hbm, 437, rfl⟩
abbrev main_while0b_v268 : Ref sig .tc := ⟨.hbm, 438, rfl⟩
abbrev main_while0b_cst_121 : Ref sig .tc := ⟨.hbm, 439, rfl⟩
abbrev main_while0b_v269 : Ref sig .tc := ⟨.hbm, 440, rfl⟩
abbrev main_while0b_v270 : Ref sig .tc := ⟨.hbm, 441, rfl⟩
abbrev main_while0b_v271 : Ref sig .tc := ⟨.hbm, 442, rfl⟩
abbrev main_while0b_v272 : Ref sig .tc := ⟨.hbm, 443, rfl⟩
abbrev main_while0b_cst_122 : Ref sig .tc := ⟨.hbm, 444, rfl⟩
abbrev main_while0b_call23_v0 : Ref sig .tc := ⟨.hbm, 445, rfl⟩
abbrev main_while0b_call23_v1 : Ref sig .tc := ⟨.hbm, 446, rfl⟩
abbrev main_while0b_v273 : Ref sig .tc := ⟨.hbm, 447, rfl⟩
abbrev main_while0b_cst_123 : Ref sig .tc := ⟨.hbm, 448, rfl⟩
abbrev main_while0b_v274 : Ref sig .tc := ⟨.hbm, 449, rfl⟩
abbrev main_while0b_v275 : Ref sig .tc := ⟨.hbm, 450, rfl⟩
abbrev main_while0b_v276 : Ref sig .tc := ⟨.hbm, 451, rfl⟩
abbrev main_while0b_v277 : Ref sig .tc := ⟨.hbm, 452, rfl⟩
abbrev main_while0b_v278 : Ref sig .tc := ⟨.hbm, 453, rfl⟩
abbrev main_while0b_v279 : Ref sig .tc := ⟨.hbm, 454, rfl⟩
abbrev main_while0b_v280 : Ref sig .tc := ⟨.hbm, 455, rfl⟩
abbrev main_while0b_cst_124 : Ref sig .tc := ⟨.hbm, 456, rfl⟩
abbrev main_while0b_v281 : Ref sig .tc := ⟨.hbm, 457, rfl⟩
abbrev main_while0b_v282 : Ref sig .tc := ⟨.hbm, 458, rfl⟩
abbrev main_while0b_v283 : Ref sig .tc := ⟨.hbm, 459, rfl⟩
abbrev main_while0b_v284 : Ref sig .tc := ⟨.hbm, 460, rfl⟩
abbrev main_while0b_call24_v0 : Ref sig .tc := ⟨.hbm, 461, rfl⟩
abbrev main_while0b_call24_v1 : Ref sig .tc := ⟨.hbm, 462, rfl⟩
abbrev main_while0b_v285 : Ref sig .tc := ⟨.hbm, 463, rfl⟩
abbrev main_while0b_c_125 : Ref sig .tc := ⟨.hbm, 464, rfl⟩
abbrev main_while0b_v286 : Ref sig .tc := ⟨.hbm, 465, rfl⟩
abbrev main_v47 : Ref sig .tc := ⟨.hbm, 466, rfl⟩
abbrev main_v48 : Ref sig .tc := ⟨.hbm, 467, rfl⟩
abbrev main_v49 : Ref sig .tc := ⟨.hbm, 468, rfl⟩
abbrev main_v50 : Ref sig .tc := ⟨.hbm, 469, rfl⟩
abbrev main_v51 : Ref sig .tc := ⟨.hbm, 470, rfl⟩
abbrev main_v52 : Ref sig .tc := ⟨.hbm, 471, rfl⟩
abbrev main_v53 : Ref sig .tc := ⟨.hbm, 472, rfl⟩

abbrev nD : Nat := 1
abbrev τ : Topo := Topo.v7x

variable {F : FTy → Type} [FloatOps F]

abbrev main_while0_count : Scf.Loop 32 := ⟨0#32, 63#32, 1#32⟩
-- ==== Proof.Trip.lean ====
/-
  One trip of the kernel's loop over tokens as a plain function: from the constants the kernel
  builds before the loop, the token's query, key and value rows and the previous key row, and the
  carried arrays, the new carried arrays and the output row.
-/
module

public import proofs.«01_k».proof.Proof.Gen.KernelIdeal.Loops

@[expose] public section

set_option maxRecDepth 16384

noncomputable section

namespace Cert.Attn

open Idealize.ShloMosaic Idealize.ShloMosaic.TcCoe Idealize.ShloMosaic.Tactic
open Cert.KernelIdeal Cert.KernelIdeal.Gen

variable {F : FTy → Type} [FloatOps F] [Named F]

/-- The seven arrays the loop carries: cached keys, values and scores by slot, the residual's keys,
    values and counts by slot, and the indicator of the slot the next token goes into. -/
abbrev Carry (F : FTy → Type) : Type :=
  FVec F S256x64 .f32 × FVec F S256x64 .f32 × FVec F S256x1 .f32 × FVec F S128x64 .f32 ×
    FVec F S128x64 .f32 × FVec F S128x1 .f32 × FVec F S256x1 .f32

/-- The index vectors and one-hot matrices built before the loop. -/
structure Consts (F : FTy → Type) where
  slot : IVec S256x1 32
  rslot : IVec S128x1 32
  Bh : FVec F S256x8 .f32
  BhT : FVec F S8x256 .f32
  Br : FVec F S128x8 .f32
  BrT : FVec F S8x128 .f32
  E0r : FVec F S8x128 .f32
  sameh : FVec F S256x256 .f32
  samehr : FVec F S128x128 .f32
  ltij : FVec F S256x256 .f32
  ltijr : FVec F S128x128 .f32

/-- The number of occupied residual places at token `t`. -/
abbrev nres (t : BitVec 32) : BitVec 32 :=
  Scalar.minsi 14#32 (Scalar.maxsi 0#32 (Scalar.subi t 28#32))

/-- The token's number on trip `k`. -/
abbrev tok (k : Fin k0_t1_loop.trips) : BitVec 32 := Scf.iv 1#32 1#32 k

/-- One trip: the carried arrays after it and the output row it stores. -/
def tripStep (C : Consts F) (k : Fin k0_t1_loop.trips) (q kr v kp : Vec F S1x8x64 .f32)
    (a : Carry F) : Carry F × Vec F S1x8x64 .f32 :=
  match a with
  | (K, V, s, rK, rV, rc, ins) =>
  let t := tok k
  let n := nres t
  let qt := k0_pay5 q
  let kt := k0_pay6 kr
  let vt := k0_pay7 v
  let qr := k0_pay8 C.Br q
  let vc := k0_pay9 s
  let vr := k0_pay10 C.rslot 1#32 1#32 k
  let sc := k0_pay11 C.Bh K q
  let sr := k0_pay12 C.Br rK q
  let sp := k0_pay13 q kp
  let eighth := Scalar.ofBits .f32 0x3E000000#32
  let one := Scalar.ofBits .f32 0x3F800000#32
  let zero := Scalar.ofBits .f32 0x00000000#32
  let cut := Scalar.ofBits .f32 0xEFA18F08#32
  let into := k0_pay14 ins
  let aS := k0_pay15 C.Bh C.BhT C.BrT C.E0r s ins n vc vr sc sr sp eighth
  let aK := k0_pay16 C.Bh K ins kt
  let aV := k0_pay17 C.Bh V ins vt
  let gt := k0_pay19 C.Bh C.BhT C.BrT C.E0r s ins n vc vr sc sr sp eighth
  let tie := k0_pay20 C.Bh C.BhT C.BrT C.E0r s ins n vc vr sc sr sp eighth
  let nS := k0_pay22 C.sameh C.ltij aS gt tie one zero
  let ek := k0_pay24 C.BhT C.sameh C.ltij aK gt tie one zero
  let ev := k0_pay25 C.BhT C.sameh C.ltij aV gt tie one zero
  let ins' := k0_pay26 C.slot C.sameh C.ltij t gt tie one zero
  let app := k0_pay27 C.rslot n
  let rKa := k0_pay28 C.rslot C.BhT C.Br C.sameh C.ltij rK n aK gt tie one zero
  let evr := k0_pay29 C.BhT C.Br C.sameh C.ltij aV gt tie one zero
  let appw := k0_pay30 C.rslot n
  let rVa := k0_pay31 rV evr appw
  let rca := k0_pay32 rc app
  let sims := k0_pay33 C.rslot C.Br C.ltijr rK ek
  let rK' := k0_pay38 C.Br C.BrT C.samehr rK rc t n ek rKa sims
  let rV' := k0_pay39 C.Br C.BrT C.samehr rV rc t n ev rVa sims
  let rc' := k0_pay40 C.samehr rc t n rca sims
  let ep := k0_pay44 qt kt
  let den := k0_pay45 C.rslot C.Bh C.BhT C.BrT t qt kt qr sc into nS rK' rc' cut
  let wr := k0_pay46 C.rslot C.BrT t qr rK' rc'
  let wc := k0_pay47 C.Bh C.BhT qt kt sc into aV nS cut
  ((aK, aV, nS, rK', rV', rc', ins'),
    k0_pay3 vt rV' ep den wr wc (constant S8x64 .f32 0x00000000#32))

end Cert.Attn

end
-- ==== Proof.TripEq.lean ====
/-
  The trip the loop's triple runs, as `tripStep`: what it yields, and the one piece it stores.
-/
module

public import proofs.«01_k».proof.Proof.Trip

@[expose] public section

set_option maxRecDepth 16384

noncomputable section

namespace Cert.Attn

open Idealize.ShloMosaic Idealize.ShloMosaic.TcCoe Idealize.ShloMosaic.Tactic
open Cert.KernelIdeal Cert.KernelIdeal.Gen

variable {F : FTy → Type} [FloatOps F] [Named F]

/-- The row block of token `k`'s number in a 64×8×64 array. -/
abbrev rowRect (k : Fin k0_t1_loop.trips) : Rect S64x8x64 :=
  Rect.unit (s := S64x8x64) (k0_off1 k) S1x8x64.size (k0_off1_inb k)

/-- The row block of the token before. -/
abbrev prevRect (k : Fin k0_t1_loop.trips) : Rect S64x8x64 :=
  Rect.unit (s := S64x8x64) (k0_off2 k) S1x8x64.size (k0_off2_inb k)

variable (𝒱 : Variants) (c : Dev nD) (bd : Option 𝒱.V)
  (arg0 : Memref sig .tc .vmem S1x64x512 .f32) (harg0 : arg0.IsWhole)
  (arg1 : Memref sig .tc .vmem S512x512 .f32) (harg1 : arg1.IsWhole)
  (arg2 : Memref sig .tc .vmem S1x512 .f32) (harg2 : arg2.IsWhole)
  (arg3 : Memref sig .tc .vmem S512x512 .f32) (harg3 : arg3.IsWhole)
  (arg4 : Memref sig .tc .vmem S1x512 .f32) (harg4 : arg4.IsWhole)
  (arg5 : Memref sig .tc .vmem S512x512 .f32) (harg5 : arg5.IsWhole)
  (arg6 : Memref sig .tc .vmem S1x512 .f32) (harg6 : arg6.IsWhole)
  (arg7 : Memref sig .tc .vmem S512x512 .f32) (harg7 : arg7.IsWhole)
  (arg8 : Memref sig .tc .vmem S1x512 .f32) (harg8 : arg8.IsWhole)
  (arg9 : Memref sig .tc .vmem S1x64x512 .f32) (harg9 : arg9.IsWhole)
  (arg10 : Memref sig .tc .vmem S64x8x64 .f32) (harg10 : arg10.IsWhole)
  (arg11 : Memref sig .tc .vmem S64x8x64 .f32) (harg11 : arg11.IsWhole)
  (arg12 : Memref sig .tc .vmem S64x8x64 .f32) (harg12 : arg12.IsWhole)
  (arg13 : Memref sig .tc .vmem S64x8x64 .f32) (harg13 : arg13.IsWhole)
  (C : Consts F) (Xq : BufTy.Contents (Elt F) arg10.view.ty)
  (Xk : BufTy.Contents (Elt F) arg11.view.ty) (Xv : BufTy.Contents (Elt F) arg12.view.ty)

/-- What one trip does, over the contents of the query, key and value buffers. -/
def tripAt (k : Fin k0_t1_loop.trips) (acc : Carry F) : Carry F × Vec F S1x8x64 .f32 :=
  tripStep C k (arg10.view.readAt (Elt F) (rowRect k).toLoadRect Xq)
    (arg11.view.readAt (Elt F) (rowRect k).toLoadRect Xk)
    (arg12.view.readAt (Elt F) (rowRect k).toLoadRect Xv)
    (arg11.view.readAt (Elt F) (prevRect k).toLoadRect Xk) acc

set_option maxHeartbeats 1000000 in
theorem tripR_eq (k : Fin k0_t1_loop.trips) (acc : Carry F) :
    tripR_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 C.slot C.rslot C.Bh C.BhT C.Br C.BrT C.E0r C.sameh C.samehr C.ltij C.ltijr Xq Xk Xv k acc
      = (tripAt arg10 arg11 arg12 C Xq Xk Xv k acc).1 := by
  unfold tripR_k0_t1 trip_k0_t1 tripAt tripStep
  rfl

set_option maxHeartbeats 1000000 in
theorem tripL_eq (k : Fin k0_t1_loop.trips) (acc : Carry F) :
    tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 C.slot C.rslot C.Bh C.BhT C.Br C.BrT C.E0r C.sameh C.samehr C.ltij C.ltijr Xq Xk Xv k acc
      = [⟨rowRect k, (tripAt arg10 arg11 arg12 C Xq Xk Xv k acc).2⟩] := by
  unfold tripL_k0_t1 trip_k0_t1 tripAt tripStep
  rfl

end Cert.Attn

end
-- ==== Proof.BodyRows.lean ====
/-
  What one run of the kernel's body computes, as plain functions of the input blocks: the constants
  built before the loop, the projected rows, the carried arrays trip by trip, the attention rows and
  the output block.
-/
module

public import proofs.«01_k».proof.Proof.TripEq
public import Idealize.ShloMosaic.Lib.Pipeline.FrameBody
public import Idealize.ShloMosaic.Lib.WritesUnit
public import Idealize.ShloMosaic.Lib.Pointwise

@[expose] public section

set_option maxRecDepth 16384

noncomputable section

namespace Cert.Attn

open Idealize.ShloMosaic Idealize.ShloMosaic.TcCoe Idealize.ShloMosaic.Tactic
open Cert.KernelIdeal Cert.KernelIdeal.Gen

variable {F : FTy → Type} [FloatOps F] [Named F]

/-- The constants as the kernel builds them. -/
def consts : Consts F :=
  let i32 : IVec S256x1 32 := iota .tc S256x1 32 [0] iota_S256x1_d0_w32
  let i33 : IVec S1x256 32 := iota .tc S1x256 32 [1] iota_S1x256_d1_w32
  let i34 : IVec S128x1 32 := iota .tc S128x1 32 [0] iota_S128x1_d0_w32
  let i35 : IVec S1x128 32 := iota .tc S1x128 32 [1] iota_S1x128_d1_w32
  let i36 : IVec S8x1 32 := iota .tc S8x1 32 [0] iota_S8x1_d0_w32
  { slot := k0_pay53
    rslot := k0_pay55 i34
    Bh := k0_pay59 (k0_pay57 k0_pay54) (Scalar.ofBits .f32 0x00000000#32) (k0_pay58 (F := F))
    BhT := k0_pay60 (F := F) i33 i36
    Br := k0_pay61 (F := F) (k0_pay56 i34)
    BrT := k0_pay65 (F := F) i35 i36 16#32 (k0_pay62 i35) (k0_pay63 i35) (k0_pay64 i35)
    E0r := k0_pay66 (F := F) i35 i36
    sameh := k0_pay70 (F := F) i32 i33 32#32 (k0_pay67 i32) (k0_pay68 i32) k0_pay69
    samehr := k0_pay74 (F := F) i34 i35 16#32 (k0_pay71 i34) (k0_pay72 i34) (k0_pay73 i34)
    ltij := k0_pay75 (F := F) i32 i33
    ltijr := k0_pay76 (F := F) i34 i35 }

/-- The first row block of a 64×8×64 array. -/
abbrev rect0 : Rect S64x8x64 :=
  Rect.unit (s := S64x8x64) ![0, 0, 0] S1x8x64.size inb_S64x8x64_S1x8x64_0_0_0

/-- The arrays carried into the first trip, from the first token's key and value rows. -/
def carry0 (k0 v0 : Vec F S1x8x64 .f32) : Carry F :=
  (k0_pay78 (consts (F := F)).slot consts.Bh k0, k0_pay79 (consts (F := F)).slot consts.Bh v0, k0_pay80 (F := F) (consts (F := F)).slot,
    k0_pay81 (F := F), k0_pay82 (F := F), k0_pay83 (F := F),
    k0_pay1 (k0_pay84 (consts (F := F)).slot) (Scalar.ofBits .f32 0x3F800000#32))

/-- Trip `k` over whole query, key and value arrays. -/
def trip (q k v : Vec F S64x8x64 .f32) (i : Fin k0_t1_loop.trips) (a : Carry F) :
    Carry F × Vec F S1x8x64 .f32 :=
  tripStep consts i (View.ld q (rowRect i)) (View.ld k (rowRect i))
    (View.ld v (rowRect i)) (View.ld k (prevRect i)) a

/-- The carried arrays before trip `n`. -/
def carry (q k v : Vec F S64x8x64 .f32) : ℕ → Carry F
  | 0 => carry0 (View.ld k rect0) (View.ld v rect0)
  | n + 1 => if h : n < k0_t1_loop.trips then (trip q k v ⟨n, h⟩ (carry q k v n)).1 else carry q k v n

/-- The attention rows: nothing for the first token, and for token `t` what trip `t - 1` stores. -/
def rows (q k v : Vec F S64x8x64 .f32) : Vec F S64x8x64 .f32 := fun j =>
  if h : 0 < (j 0).val ∧ (j 0).val - 1 < k0_t1_loop.trips then
    (trip q k v ⟨(j 0).val - 1, h.2⟩ (carry q k v ((j 0).val - 1))).2
      (ix3 (0 : Fin 1) (j 1) (j 2))
  else k0_pay2 (F := F) (ix3 (0 : Fin 1) (j 1) (j 2))

/-- The output block, from the input blocks. -/
def bodyOut (x : Vec F S1x64x512 .f32) (wq : Vec F S512x512 .f32) (bq : Vec F S1x512 .f32)
    (wk : Vec F S512x512 .f32) (bk : Vec F S1x512 .f32) (wv : Vec F S512x512 .f32)
    (bv : Vec F S1x512 .f32) (wo : Vec F S512x512 .f32) (bo : Vec F S1x512 .f32) :
    Vec F S1x64x512 .f32 :=
  k0_pay4 (rows (k0_pay49 x wq bq) (k0_pay50 x wk bk) (k0_pay52 (k0_pay51 x wv bv))) wo bo

end Cert.Attn

end
-- ==== Proof.ConstVals.lean ====
/-
  The constants of the kernel at an index: slot numbers, and the one-hot matrices that broadcast a
  head's value to its slots and sum over a head's slots.
-/
module

public import proofs.«01_k».proof.Proof.BodyRows
public import Idealize.ShloMosaic.Lib.Pointwise

@[expose] public section

set_option maxRecDepth 16384

noncomputable section

namespace Cert.Attn

open Idealize.ShloMosaic Idealize.ShloMosaic.TcCoe Idealize.ShloMosaic.Tactic
open Cert.KernelIdeal Cert.KernelIdeal.Gen

/-- The constants, read as extended reals. -/
abbrev kc : Consts Ideal := consts

theorem sel_ite {α : Type} {c : BitVec 1} {p : Prop} [Decidable p] (h : c = if p then 1#1 else 0#1) (x y : α) :
    Scalar.select c x y = if p then x else y := by
  subst h
  by_cases hp : p <;> simp [hp, Scalar.select]

theorem head_eq : ∀ i : Fin 256, k0_pay54 (ix2 i (0 : Fin 1)) = BitVec.ofNat 32 (i.val / 32) := by decide +kernel

theorem slot_eq : ∀ i : Fin 256, kc.slot (ix2 i (0 : Fin 1)) = BitVec.ofNat 32 (i.val % 32) := by decide +kernel

theorem rhead_eq : ∀ i : Fin 128,
    k0_pay56 (iota .tc S128x1 32 [0] iota_S128x1_d0_w32) (ix2 i (0 : Fin 1)) = BitVec.ofNat 32 (i.val / 16) := by
  decide +kernel

theorem rslot_eq : ∀ i : Fin 128, kc.rslot (ix2 i (0 : Fin 1)) = BitVec.ofNat 32 (i.val % 16) := by decide +kernel

/-- Division by 32 rounding down, as the kernel writes it. -/
abbrev fdiv (n : BitVec 32) (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt n 0#32))
          (Scalar.extui (Scalar.cmpi CmpIPredicate.slt n 0#32))))
      (IntOp.cmpi CmpIPredicate.ne (IntOp.remsi ArithUnit.vector w n) 0#32))
    (IntOp.subi (IntOp.divsi ArithUnit.vector w n) 1#32)
    (IntOp.divsi ArithUnit.vector w n)

theorem fdiv32 : ∀ i : Fin 256, fdiv 32#32 (BitVec.ofNat 32 i.val) = BitVec.ofNat 32 (i.val / 32) := by decide +kernel

theorem fdiv16 : ∀ i : Fin 128, fdiv 16#32 (BitVec.ofNat 32 i.val) = BitVec.ofNat 32 (i.val / 16) := by decide +kernel

theorem eq_word {a b : ℕ} (ha : a < 2 ^ 32) (hb : b < 2 ^ 32) :
    IntOp.cmpi CmpIPredicate.eq (BitVec.ofNat 32 a) (BitVec.ofNat 32 b) = if a = b then 1#1 else 0#1 := by
  have h : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases hab : a = b
  · subst hab; simp [IntOp.cmpi]
  · have : ¬(BitVec.ofNat 32 a = BitVec.ofNat 32 b) := fun e => hab (h.mp e)
    simp only [IntOp.cmpi, beq_eq_false_iff_ne.mpr this, hab, if_false]; rfl

theorem Bh_eq (i : Fin 256) (h : Fin 8) : kc.Bh (ix2 i h) = if i.val / 32 = h.val then 1 else 0 := by
  unfold kc consts
  dsimp only
  unfold k0_pay59 k0_pay57 k0_pay58
  pointwise
  rw [head_eq, sel_ite (eq_word (by omega) (by omega))]

theorem BhT_eq (i : Fin 256) (h : Fin 8) : kc.BhT (ix2 h i) = if i.val / 32 = h.val then 1 else 0 := by
  unfold kc consts
  dsimp only
  unfold k0_pay60
  pointwise
  have e := fdiv32 i
  unfold fdiv at e
  rw [e, sel_ite (eq_word (by omega) (by omega))]
  simp only [eq_comm]

theorem Br_eq (i : Fin 128) (h : Fin 8) : kc.Br (ix2 i h) = if i.val / 16 = h.val then 1 else 0 := by
  unfold kc consts
  dsimp only
  unfold k0_pay61
  pointwise
  rw [rhead_eq, sel_ite (eq_word (by omega) (by omega))]

theorem BrT_eq (i : Fin 128) (h : Fin 8) : kc.BrT (ix2 h i) = if i.val / 16 = h.val then 1 else 0 := by
  unfold kc consts
  dsimp only
  unfold k0_pay65 k0_pay62 k0_pay63 k0_pay64
  pointwise
  have e := fdiv16 i
  unfold fdiv at e
  rw [e, sel_ite (eq_word (by omega) (by omega))]
  simp only [eq_comm]

theorem E0r_eq (i : Fin 128) (h : Fin 8) : kc.E0r (ix2 h i) = if i.val = 16 * h.val then 1 else 0 := by
  unfold kc consts
  dsimp only
  unfold k0_pay66
  pointwise
  refine sel_ite ?_ 1 0
  revert i h
  decide +kernel

theorem sameh_eq (i j : Fin 256) : kc.sameh (ix2 i j) = if i.val / 32 = j.val / 32 then 1 else 0 := by
  unfold kc consts
  dsimp only
  unfold k0_pay70 k0_pay67 k0_pay68 k0_pay69
  pointwise
  have e := fdiv32 i
  have e' := fdiv32 j
  unfold fdiv at e e'
  rw [e, e', sel_ite (eq_word (by omega) (by omega))]

theorem samehr_eq (i j : Fin 128) : kc.samehr (ix2 i j) = if i.val / 16 = j.val / 16 then 1 else 0 := by
  unfold kc consts
  dsimp only
  unfold k0_pay74 k0_pay71 k0_pay72 k0_pay73
  pointwise
  have e := fdiv16 i
  have e' := fdiv16 j
  unfold fdiv at e e'
  rw [e, e', sel_ite (eq_word (by omega) (by omega))]

theorem slt_word {a b : ℕ} (ha : a < 2 ^ 31) (hb : b < 2 ^ 31) :
    IntOp.cmpi CmpIPredicate.slt (BitVec.ofNat 32 a) (BitVec.ofNat 32 b) = if a < b then 1#1 else 0#1 := by
  have h : (BitVec.ofNat 32 a).slt (BitVec.ofNat 32 b) = decide (a < b) := by
    rw [BitVec.slt_eq_decide, BitVec.toInt_eq_toNat_cond, BitVec.toInt_eq_toNat_cond, BitVec.toNat_ofNat,
      BitVec.toNat_ofNat, Nat.mod_eq_of_lt (by omega), Nat.mod_eq_of_lt (by omega), if_pos (by omega), if_pos (by omega)]
    simp
  by_cases hab : a < b <;> simp [IntOp.cmpi, h, hab]

theorem ltij_eq (i j : Fin 256) : kc.ltij (ix2 i j) = if j.val < i.val then 1 else 0 := by
  unfold kc consts
  dsimp only
  unfold k0_pay75
  pointwise
  rw [sel_ite (slt_word (by omega) (by omega))]

theorem ltijr_eq (i j : Fin 128) : kc.ltijr (ix2 i j) = if j.val < i.val then 1 else 0 := by
  unfold kc consts
  dsimp only
  unfold k0_pay76
  pointwise
  rw [sel_ite (slt_word (by omega) (by omega))]

end Cert.Attn

end
-- ==== Proof.Collapse.lean ====
/-
  Sums against the one-hot matrices: a product with `Bh` reads a head's value at a slot, a product
  with its transpose sums over the slots of a head.
-/
module

public import proofs.«01_k».proof.Proof.ConstVals

@[expose] public section

set_option maxRecDepth 16384

noncomputable section

namespace Cert.Attn

open Idealize.ShloMosaic

/-- Context slot `c` of head `h` among all slots. -/
def sl (h : Fin 8) (c : Fin 32) : Fin 256 := ⟨32 * h.val + c.val, by omega⟩
/-- Residual slot `r` of head `h` among all slots. -/
def rsl (h : Fin 8) (r : Fin 16) : Fin 128 := ⟨16 * h.val + r.val, by omega⟩

theorem sl_div (h : Fin 8) (c : Fin 32) : (sl h c).val / 32 = h.val := by simp only [sl]; omega
theorem rsl_div (h : Fin 8) (r : Fin 16) : (rsl h r).val / 16 = h.val := by simp only [rsl]; omega
theorem sl_mod (h : Fin 8) (c : Fin 32) : (sl h c).val % 32 = c.val := by simp only [sl]; omega
theorem rsl_mod (h : Fin 8) (r : Fin 16) : (rsl h r).val % 16 = r.val := by simp only [rsl]; omega

theorem sum_sl (f : Fin 256 → EReal) : ∑ i, f i = ∑ h : Fin 8, ∑ c : Fin 32, f (sl h c) := by
  rw [← Fintype.sum_prod_type' (f := fun h c => f (sl h c))]
  exact (Fintype.sum_equiv (finProdFinEquiv (m := 8) (n := 32)) _ f
    (fun p => congrArg f (Fin.ext (by simp only [sl, finProdFinEquiv_apply_val]; omega)))).symm

theorem sum_rsl (f : Fin 128 → EReal) : ∑ i, f i = ∑ h : Fin 8, ∑ r : Fin 16, f (rsl h r) := by
  rw [← Fintype.sum_prod_type' (f := fun h r => f (rsl h r))]
  exact (Fintype.sum_equiv (finProdFinEquiv (m := 8) (n := 16)) _ f
    (fun p => congrArg f (Fin.ext (by simp only [rsl, finProdFinEquiv_apply_val]; omega)))).symm

theorem sum_pick (f : Fin 8 → EReal) (h : Fin 8) (g : Fin 8 → EReal) (hg : ∀ k, g k = if h.val = k.val then 1 else 0) :
    ∑ k, g k * f k = f h := by
  rw [Finset.sum_eq_single h]
  · rw [hg, if_pos rfl, one_mul]
  · intro k _ hk
    rw [hg, if_neg (fun e => hk (Fin.ext e.symm)), zero_mul]
  · intro hh; exact absurd (Finset.mem_univ _) hh

theorem bc (h : Fin 8) (c : Fin 32) (f : Fin 8 → EReal) : ∑ k, kc.Bh (ix2 (sl h c) k) * f k = f h :=
  sum_pick f h _ fun k => by rw [Bh_eq, sl_div]

theorem rbc (h : Fin 8) (r : Fin 16) (f : Fin 8 → EReal) : ∑ k, kc.Br (ix2 (rsl h r) k) * f k = f h :=
  sum_pick f h _ fun k => by rw [Br_eq, rsl_div]

theorem inner_pick {n : ℕ} (h h' : Fin 8) (f g : Fin n → EReal) (hg : ∀ c, g c = if h'.val = h.val then 1 else 0) :
    ∑ c, g c * f c = if h' = h then ∑ c, f c else 0 := by
  by_cases e : h' = h
  · rw [if_pos e]; refine Finset.sum_congr rfl fun c _ => ?_
    rw [hg, if_pos (congrArg Fin.val e), one_mul]
  · rw [if_neg e]; refine Finset.sum_eq_zero fun c _ => ?_
    rw [hg, if_neg (fun x => e (Fin.ext x)), zero_mul]

theorem ga (h : Fin 8) (f : Fin 256 → EReal) : ∑ i, kc.BhT (ix2 h i) * f i = ∑ c, f (sl h c) := by
  rw [sum_sl]
  rw [Finset.sum_congr rfl fun h' _ => inner_pick (n := 32) h h' (fun c => f (sl h' c)) _ fun c => by
    rw [BhT_eq, sl_div]]
  rw [Finset.sum_ite_eq' Finset.univ h, if_pos (Finset.mem_univ _)]

theorem rga (h : Fin 8) (f : Fin 128 → EReal) : ∑ i, kc.BrT (ix2 h i) * f i = ∑ r, f (rsl h r) := by
  rw [sum_rsl]
  rw [Finset.sum_congr rfl fun h' _ => inner_pick (n := 16) h h' (fun c => f (rsl h' c)) _ fun c => by
    rw [BrT_eq, rsl_div]]
  rw [Finset.sum_ite_eq' Finset.univ h, if_pos (Finset.mem_univ _)]

theorem ga2 (h : Fin 8) (g f : Fin 256 → EReal) :
    ∑ i, (kc.BhT (ix2 h i) * g i) * f i = ∑ c, g (sl h c) * f (sl h c) := by
  rw [← ga h fun i => g i * f i]
  exact Finset.sum_congr rfl fun i _ => mul_assoc _ _ _

theorem rga2 (h : Fin 8) (g f : Fin 128 → EReal) :
    ∑ i, (kc.BrT (ix2 h i) * g i) * f i = ∑ r, g (rsl h r) * f (rsl h r) := by
  rw [← rga h fun i => g i * f i]
  exact Finset.sum_congr rfl fun i _ => mul_assoc _ _ _

theorem sa (h : Fin 8) (c : Fin 32) (f : Fin 256 → EReal) :
    ∑ j, f j * kc.sameh (ix2 (sl h c) j) = ∑ c', f (sl h c') := by
  rw [← ga h f]
  refine Finset.sum_congr rfl fun j _ => ?_
  rw [mul_comm, sameh_eq, BhT_eq, sl_div]
  simp only [eq_comm]

theorem rsa (h : Fin 8) (r : Fin 16) (f : Fin 128 → EReal) :
    ∑ j, f j * kc.samehr (ix2 (rsl h r) j) = ∑ r', f (rsl h r') := by
  rw [← rga h f]
  refine Finset.sum_congr rfl fun j _ => ?_
  rw [mul_comm, samehr_eq, BrT_eq, rsl_div]
  simp only [eq_comm]

theorem e0 (h : Fin 8) (f : Fin 128 → EReal) : ∑ i, kc.E0r (ix2 h i) * f i = f (rsl h 0) := by
  rw [Finset.sum_eq_single (rsl h 0)]
  · rw [E0r_eq, if_pos (by simp [rsl]), one_mul]
  · intro i _ hi
    rw [E0r_eq, if_neg (fun e => hi (Fin.ext (by simpa [rsl] using e))), zero_mul]
  · intro hh; exact absurd (Finset.mem_univ _) hh

theorem lt_sl (h : Fin 8) (c c' : Fin 32) : kc.ltij (ix2 (sl h c) (sl h c')) = if c' < c then 1 else 0 := by
  rw [ltij_eq]
  simp only [sl, Nat.add_lt_add_iff_left, Fin.lt_def]

theorem lt_rsl (h : Fin 8) (r r' : Fin 16) : kc.ltijr (ix2 (rsl h r) (rsl h r')) = if r' < r then 1 else 0 := by
  rw [ltijr_eq]
  simp only [rsl, Nat.add_lt_add_iff_left, Fin.lt_def]

theorem slot_sl (h : Fin 8) (c : Fin 32) : kc.slot (ix2 (sl h c) (0 : Fin 1)) = BitVec.ofNat 32 c.val := by
  rw [slot_eq, sl_mod]

theorem rslot_rsl (h : Fin 8) (r : Fin 16) : kc.rslot (ix2 (rsl h r) (0 : Fin 1)) = BitVec.ofNat 32 r.val := by
  rw [rslot_eq, rsl_mod]

end Cert.Attn

end
-- ==== Proof.Slots.lean ====
/-
  One head of the kernel's cache as plain mathematics: thirty-two context slots, sixteen residual
  slots, and one token's step over them.
-/
module

public import Idealize.ShloMosaic.Lib.Pointwise

@[expose] public section

noncomputable section

namespace Cert.Attn

open Idealize.ShloMosaic

/-- A row of a head. -/
abbrev Row : Type := Fin 64 → EReal

/-- The inner product of two rows. -/
def dot (a b : Row) : EReal := ∑ d, a d * b d

/-- One eighth, the scale of the scores, as the kernel writes it. -/
abbrev eighth : EReal := Ideal.ofBits .f32 0x3E000000#32
/-- The decay of a cached score. -/
abbrev decay : EReal := Ideal.ofBits .f32 0x3F7AE148#32
/-- The threshold above which a slot counts as occupied. -/
abbrev cut : EReal := Ideal.ofBits .f32 0xEFA18F08#32
/-- One half. -/
abbrev half : EReal := Ideal.ofBits .f32 0x3F000000#32
/-- The least norm. -/
abbrev tiny : EReal := Ideal.ofBits .f32 0x322BCC77#32
/-- The weight of the logarithm of the counts. -/
abbrev alpha : EReal := Ideal.ofBits .f32 0x3F19999A#32

/-- The number of occupied residual places at token `t`. -/
def nr (t : ℕ) : ℕ := min 14 (t - 28)

/-- One where `p` holds and zero elsewhere. -/
def ind (p : Prop) [Decidable p] : EReal := if p then 1 else 0

/-- The cache of one head, by slot. -/
structure Slots where
  K : Fin 32 → Row
  V : Fin 32 → Row
  s : Fin 32 → EReal
  rK : Fin 16 → Row
  rV : Fin 16 → Row
  rc : Fin 16 → EReal
  ins : Fin 32 → EReal

namespace Slots

variable (t : ℕ) (q k v kp : Row) (S : Slots)

/-- The scaled score of a row of keys. -/
def sc (q a : Row) : EReal := dot a q * eighth

/-- The exponentials of the scores: context slots, residual slots, previous key. -/
def eC (c : Fin 32) : EReal := if cut < S.s c then Ideal.exp (sc q (S.K c)) else 0
def eR (r : Fin 16) : EReal := if r.val < nr t then Ideal.exp (sc q (S.rK r)) else 0
def eP : EReal := Ideal.exp (sc q kp)

/-- Their sum. -/
def den : EReal := ∑ c, S.eC q c + ∑ r, S.eR t q r + eP q kp

/-- The score the new entry starts with. -/
def newS : EReal := Ideal.div (if 0 < nr t then S.eR t q 0 else eP q kp) (S.den t q kp)

/-- The slot the token goes into. -/
def into (c : Fin 32) : Prop := half < S.ins c

instance (c : Fin 32) : Decidable (S.into c) := inferInstanceAs (Decidable (half < S.ins c))

/-- Scores, keys and values once the token has entered. -/
def aS (c : Fin 32) : EReal :=
  if S.into c then S.newS t q kp else S.s c * decay + Ideal.div (S.eC q c) (S.den t q kp)
def aK (c : Fin 32) : Row := fun d => if S.into c then k d else S.K c d
def aV (c : Fin 32) : Row := fun d => if S.into c then v d else S.V c d

/-- The slots which come before `c` when the scores fall. -/
def before {n : ℕ} (f : Fin n → EReal) (c : Fin n) : Finset (Fin n) :=
  Finset.univ.filter fun j => f c < f j ∨ (f j = f c ∧ j < c)

/-- The slot of rank 28. -/
def em (c : Fin 32) : Prop := (before (S.aS t q kp) c).card = 28

instance (c : Fin 32) : Decidable (S.em t q kp c) :=
  inferInstanceAs (Decidable ((before (S.aS t q kp) c).card = 28))

/-- The scores once that slot is empty, and its key and value. -/
def nS (c : Fin 32) : EReal := if S.em t q kp c then ⊥ else S.aS t q kp c
def ek : Row := fun d => ∑ c, if S.em t q kp c then S.aK k c d else 0
def ev : Row := fun d => ∑ c, if S.em t q kp c then S.aV v c d else 0

/-- The slot of the next token. -/
def ins' (c : Fin 32) : EReal :=
  if 28 ≤ t then ind (S.em t q kp c) else ind (c.val = min (t + 1) 28)

/-- The norm of a row, kept off zero. -/
def norm (a : Row) : EReal := max (Ideal.sqrt (dot a a)) tiny

/-- The likeness of a residual key and the leaving key. -/
def sims (r : Fin 16) : EReal :=
  if r.val < 14 then Ideal.div (dot (S.rK r) (S.ek t q k kp)) (norm (S.rK r) * norm (S.ek t q k kp)) else ⊥

/-- The first of the likest residual slots. -/
def oh (r : Fin 16) : Prop := (before (S.sims t q k kp) r).card = 0

instance (r : Fin 16) : Decidable (S.oh t q k kp r) :=
  inferInstanceAs (Decidable ((before (S.sims t q k kp) r).card = 0))

/-- Its count, key and value merged with the leaving entry. -/
def oc : EReal := ∑ r, if S.oh t q k kp r then S.rc r else 0
def gk : Row := fun d =>
  Ideal.div (S.oc t q k kp * (∑ r, if S.oh t q k kp r then S.rK r d else 0) + S.ek t q k kp d) (S.oc t q k kp + 1)
def gv : Row := fun d =>
  Ideal.div (S.oc t q k kp * (∑ r, if S.oh t q k kp r then S.rV r d else 0) + S.ev t q v kp d) (S.oc t q k kp + 1)

/-- The residual once the entry has left. -/
def rK' (r : Fin 16) : Row := fun d =>
  if 28 ≤ t then
    if nr t < 14 then (if r.val = nr t then S.ek t q k kp d else S.rK r d)
    else (if S.oh t q k kp r then S.gk t q k kp d else S.rK r d)
  else S.rK r d
def rV' (r : Fin 16) : Row := fun d =>
  if 28 ≤ t then
    if nr t < 14 then (if r.val = nr t then S.ev t q v kp d else S.rV r d)
    else (if S.oh t q k kp r then S.gv t q k v kp d else S.rV r d)
  else S.rV r d
def rc' (r : Fin 16) : EReal :=
  if 28 ≤ t then
    if nr t < 14 then (if r.val = nr t then 1 else S.rc r)
    else S.rc r + ind (S.oh t q k kp r)
  else S.rc r

/-- The exponentials of the attention scores, and their sum. -/
def fC (c : Fin 32) : EReal :=
  if cut < S.nS t q kp c then Ideal.exp (if S.into c then sc q k else sc q (S.K c)) else 0
def fR (r : Fin 16) : EReal :=
  if r.val < nr (t + 1) then Ideal.exp (sc q (S.rK' t q k kp r) + alpha * Ideal.log (S.rc' t q k kp r)) else 0
def fden : EReal := ∑ c, S.fC t q k kp c + ∑ r, S.fR t q k kp r + Ideal.exp (sc q k)

/-- The attention row. -/
def out : Row := fun d =>
  Ideal.div (∑ c, S.fC t q k kp c * S.aV v c d + ∑ r, S.fR t q k kp r * S.rV' t q k v kp r d
    + Ideal.exp (sc q k) * v d) (S.fden t q k kp)

/-- The cache after the token. -/
def next : Slots where
  K := S.aK k
  V := S.aV v
  s := S.nS t q kp
  rK := S.rK' t q k kp
  rV := S.rV' t q k v kp
  rc := S.rc' t q k kp
  ins := S.ins' t q kp

end Slots

end Cert.Attn

end
-- ==== Proof.TripAt.lean ====
/-
  One trip of the kernel's loop, read head by head: each array the trip computes, at a slot of a
  head, is what the plain step over that head's slots says.
-/
module

public import proofs.«01_k».proof.Proof.Collapse
public import proofs.«01_k».proof.Proof.Slots

@[expose] public section

set_option maxRecDepth 16384

noncomputable section

namespace Cert.Attn

open Idealize.ShloMosaic Idealize.ShloMosaic.TcCoe Idealize.ShloMosaic.Tactic
open Cert.KernelIdeal Cert.KernelIdeal.Gen
open Slots

/-- The slots of head `h` in the carried arrays. -/
def headOf (a : Carry Ideal) (h : Fin 8) : Slots where
  K c d := a.1 (ix2 (sl h c) d)
  V c d := a.2.1 (ix2 (sl h c) d)
  s c := a.2.2.1 (ix2 (sl h c) (0 : Fin 1))
  rK r d := a.2.2.2.1 (ix2 (rsl h r) d)
  rV r d := a.2.2.2.2.1 (ix2 (rsl h r) d)
  rc r := a.2.2.2.2.2.1 (ix2 (rsl h r) (0 : Fin 1))
  ins c := a.2.2.2.2.2.2 (ix2 (sl h c) (0 : Fin 1))

/-- Row `h` of a stored block. -/
def rowOf (x : Vec Ideal S1x8x64 .f32) (h : Fin 8) : Row := fun d => x (ix3 (0 : Fin 1) h d)

/-! ## Words -/

theorem nres_eq : ∀ k : Fin k0_t1_loop.trips, nres (tok k) = BitVec.ofNat 32 (nr (k.val + 1)) := by
  decide +kernel

theorem nres_eq' : ∀ k : Fin k0_t1_loop.trips,
    Scalar.minsi 14#32 (Scalar.maxsi 0#32 (Scalar.subi (Scalar.addi (tok k) 1#32) 28#32))
      = BitVec.ofNat 32 (nr (k.val + 2)) := by
  decide +kernel

theorem next_eq : ∀ k : Fin k0_t1_loop.trips,
    Scalar.minsi (Scalar.addi (tok k) 1#32) 28#32 = BitVec.ofNat 32 (min (k.val + 2) 28) := by
  decide +kernel

theorem full_eq : ∀ k : Fin k0_t1_loop.trips,
    Scalar.cmpi CmpIPredicate.sge (tok k) 28#32 = if 28 ≤ k.val + 1 then 1#1 else 0#1 := by
  decide +kernel

theorem pos_eq : ∀ k : Fin k0_t1_loop.trips,
    Scalar.cmpi CmpIPredicate.sgt (nres (tok k)) 0#32 = if 0 < nr (k.val + 1) then 1#1 else 0#1 := by
  decide +kernel

theorem word_room : ∀ n : Fin 15,
    Scalar.cmpi CmpIPredicate.slt (BitVec.ofNat 32 n.val) 14#32 = if n.val < 14 then 1#1 else 0#1 := by
  decide +kernel

theorem room_eq (t : ℕ) :
    Scalar.cmpi CmpIPredicate.slt (BitVec.ofNat 32 (nr t)) 14#32 = if nr t < 14 then 1#1 else 0#1 :=
  word_room ⟨nr t, by unfold nr; omega⟩

theorem nr_lt (t : ℕ) : nr t < 2 ^ 31 := by unfold nr; omega

/-! ## The scores -/

section
variable (k : Fin k0_t1_loop.trips) (q kr v kp : Vec Ideal S1x8x64 .f32) (a : Carry Ideal)

theorem sc_at (K : FVec Ideal S256x64 .f32) (h : Fin 8) (c : Fin 32) :
    k0_pay11 kc.Bh K q (ix2 (sl h c) (0 : Fin 1)) = sc (rowOf q h) (fun d => K (ix2 (sl h c) d)) := by
  unfold k0_pay11 k0_pay5
  pointwise
  simp only [bc]
  rfl

theorem sr_at (K : FVec Ideal S128x64 .f32) (h : Fin 8) (r : Fin 16) :
    k0_pay12 kc.Br K q (ix2 (rsl h r) (0 : Fin 1)) = sc (rowOf q h) (fun d => K (ix2 (rsl h r) d)) := by
  unfold k0_pay12 k0_pay8 k0_pay5
  pointwise
  simp only [rbc]
  rfl

theorem sp_at (h : Fin 8) :
    k0_pay13 q kp (ix2 h (0 : Fin 1)) = dot (rowOf kp h) (rowOf q h) := by
  unfold k0_pay13 k0_pay5
  pointwise
  rfl

/-- The scores once the token has entered. -/
abbrev tAS : FVec Ideal S256x1 .f32 :=
  k0_pay15 kc.Bh kc.BhT kc.BrT kc.E0r a.2.2.1 a.2.2.2.2.2.2 (nres (tok k)) (k0_pay9 a.2.2.1)
    (k0_pay10 kc.rslot 1#32 1#32 k) (k0_pay11 kc.Bh a.1 q) (k0_pay12 kc.Br a.2.2.2.1 q) (k0_pay13 q kp)
    (Scalar.ofBits .f32 0x3E000000#32)

theorem vr_at (h : Fin 8) (r : Fin 16) (x y : EReal) :
    Scalar.select (k0_pay10 kc.rslot 1#32 1#32 k (ix2 (rsl h r) (0 : Fin 1))) x y
      = if r.val < nr (k.val + 1) then x else y := by
  unfold k0_pay10
  pointwise
  have e := nres_eq k
  unfold nres tok at e
  rw [rslot_rsl, e, sel_ite (slt_word (by omega) (nr_lt _))]

theorem sel_mul (w : BitVec 1) (x y : EReal) : Scalar.select w (x * y) 0 = x * Scalar.select w y 0 := by
  unfold Scalar.select
  split
  · rfl
  · rw [mul_zero]

theorem sel_if (p : Prop) [Decidable p] (x y : EReal) :
    Scalar.select (if p then 1#1 else 0#1) x y = if p then x else y := sel_ite rfl x y

theorem aS_at (h : Fin 8) (c : Fin 32) :
    tAS k q kp a (ix2 (sl h c) (0 : Fin 1)) = (headOf a h).aS (k.val + 1) (rowOf q h) (rowOf kp h) c := by
  unfold tAS k0_pay15 k0_pay14 k0_pay9
  pointwise
  simp only [sel_mul, sel_if, bc, ga, rga, e0, sc_at, sr_at, sp_at, vr_at, pos_eq]
  rfl

/-- Keys and values once the token has entered. -/
abbrev tAK : FVec Ideal S256x64 .f32 := k0_pay16 kc.Bh a.1 a.2.2.2.2.2.2 (k0_pay6 kr)
abbrev tAV : FVec Ideal S256x64 .f32 := k0_pay17 kc.Bh a.2.1 a.2.2.2.2.2.2 (k0_pay7 v)

theorem aK_at (h : Fin 8) (c : Fin 32) (d : Fin 64) :
    tAK kr a (ix2 (sl h c) d) = (headOf a h).aK (rowOf kr h) c d := by
  unfold tAK k0_pay16 k0_pay14 k0_pay6
  pointwise
  simp only [bc]
  rfl

theorem aV_at (h : Fin 8) (c : Fin 32) (d : Fin 64) :
    tAV v a (ix2 (sl h c) d) = (headOf a h).aV (rowOf v h) c d := by
  unfold tAV k0_pay17 k0_pay14 k0_pay7
  pointwise
  simp only [bc]
  rfl

/-- The two comparison arrays of the rank. -/
abbrev tGT : FVec Ideal S256x256 .f32 :=
  k0_pay19 kc.Bh kc.BhT kc.BrT kc.E0r a.2.2.1 a.2.2.2.2.2.2 (nres (tok k)) (k0_pay9 a.2.2.1)
    (k0_pay10 kc.rslot 1#32 1#32 k) (k0_pay11 kc.Bh a.1 q) (k0_pay12 kc.Br a.2.2.2.1 q) (k0_pay13 q kp)
    (Scalar.ofBits .f32 0x3E000000#32)
abbrev tTIE : IVec S256x256 1 :=
  k0_pay20 kc.Bh kc.BhT kc.BrT kc.E0r a.2.2.1 a.2.2.2.2.2.2 (nres (tok k)) (k0_pay9 a.2.2.1)
    (k0_pay10 kc.rslot 1#32 1#32 k) (k0_pay11 kc.Bh a.1 q) (k0_pay12 kc.Br a.2.2.2.1 q) (k0_pay13 q kp)
    (Scalar.ofBits .f32 0x3E000000#32)

theorem gt_at (i j : Fin 256) :
    tGT k q kp a (ix2 i j)
      = if tAS k q kp a (ix2 i (0 : Fin 1)) < tAS k q kp a (ix2 j (0 : Fin 1)) then 1 else 0 := by
  unfold tGT k0_pay19 k0_pay18
  generalize hA : k0_pay15 (F := Ideal) kc.Bh kc.BhT kc.BrT kc.E0r a.2.2.1 a.2.2.2.2.2.2 (nres (tok k)) (k0_pay9 a.2.2.1)
    (k0_pay10 kc.rslot 1#32 1#32 k) (k0_pay11 kc.Bh a.1 q) (k0_pay12 kc.Br a.2.2.2.1 q) (k0_pay13 q kp)
    (Scalar.ofBits .f32 0x3E000000#32) = A
  pointwise
  subst hA
  rfl

theorem tie_at (i j : Fin 256) (x y : EReal) :
    Scalar.select (tTIE k q kp a (ix2 i j)) x y
      = if tAS k q kp a (ix2 j (0 : Fin 1)) = tAS k q kp a (ix2 i (0 : Fin 1)) then x else y := by
  unfold tTIE k0_pay20 k0_pay18
  generalize hA : k0_pay15 (F := Ideal) kc.Bh kc.BhT kc.BrT kc.E0r a.2.2.1 a.2.2.2.2.2.2 (nres (tok k)) (k0_pay9 a.2.2.1)
    (k0_pay10 kc.rslot 1#32 1#32 k) (k0_pay11 kc.Bh a.1 q) (k0_pay12 kc.Br a.2.2.2.1 q) (k0_pay13 q kp)
    (Scalar.ofBits .f32 0x3E000000#32) = A
  pointwise
  subst hA
  rfl

/-- Greater or equal-and-earlier, as the kernel adds it up. -/
theorem cmp_sum (p r l : Prop) [Decidable p] [Decidable r] [Decidable l] (hpr : ¬(p ∧ r)) :
    (((if p then (1 : EReal) else 0) + if r then (if l then 1 else 0) else 0)
      - if r then (if p then 1 else 0) * (if l then 1 else 0) else 0) = if p ∨ (r ∧ l) then 1 else 0 := by
  by_cases p <;> by_cases r <;> by_cases l <;> simp_all

theorem sum_before {n : ℕ} (f : Fin n → EReal) (c : Fin n) :
    (∑ j, (((if f c < f j then (1 : EReal) else 0) + if f j = f c then (if j < c then 1 else 0) else 0)
      - if f j = f c then (if f c < f j then 1 else 0) * (if j < c then 1 else 0) else 0))
      = ((before f c).card : EReal) := by
  rw [Finset.sum_congr rfl fun j _ => cmp_sum (f c < f j) (f j = f c) (j < c) (fun h => absurd h.2 (ne_of_gt h.1))]
  unfold before
  rw [Finset.sum_boole]

theorem sum_before' {n : ℕ} (f : Fin n → EReal) (c : Fin n) :
    (∑ j, (((if f c < f j then (1 : EReal) else 0) + (if f j = f c then 1 else 0) * (if j < c then 1 else 0))
      - (if f c < f j then 1 else 0) * ((if f j = f c then 1 else 0) * (if j < c then 1 else 0))))
      = ((before f c).card : EReal) := by
  rw [← sum_before]
  refine Finset.sum_congr rfl fun j _ => ?_
  by_cases f c < f j <;> by_cases f j = f c <;> by_cases j < c <;> simp_all

theorem word28 : Ideal.ofBits .f32 0x41E00000#32 = ((28 : ℕ) : EReal) := by
  have : Ideal.ofBits .f32 0x41E00000#32 = ((28 : ℝ) : EReal) := by
    simp [Ideal.ofBits, Ideal.ieee, -EReal.coe_mul]; norm_num
  rw [this]; rfl

theorem em_at (h : Fin 8) (c : Fin 32) (x y : EReal) :
    Scalar.select (k0_pay21 kc.sameh kc.ltij (tGT k q kp a) (tTIE k q kp a) 1 0 (ix2 (sl h c) (0 : Fin 1))) x y
      = if (headOf a h).em (k.val + 1) (rowOf q h) (rowOf kp h) c then x else y := by
  unfold k0_pay21
  pointwise
  simp only [sa, gt_at, tie_at, lt_sl, aS_at, sum_before, word28]
  refine if_congr ?_ rfl rfl
  unfold Slots.em
  exact EReal.natCast_eq_iff

/-- The scores once the slot of rank 28 is empty. -/
abbrev tNS : FVec Ideal S256x1 .f32 :=
  k0_pay22 kc.sameh kc.ltij (tAS k q kp a) (tGT k q kp a) (tTIE k q kp a) 1 0

theorem mask_eq : (Named.named κ "mask" 0xF149F2CA#32 : Ideal .f32) = ⊥ :=
  IdealRules.named_const.ideal_named_scalar _ _ _ _ rfl

theorem nS_at (h : Fin 8) (c : Fin 32) :
    tNS k q kp a (ix2 (sl h c) (0 : Fin 1)) = (headOf a h).nS (k.val + 1) (rowOf q h) (rowOf kp h) c := by
  unfold tNS k0_pay22
  pointwise
  simp only [em_at, aS_at, mask_eq]
  rfl

/-- The leaving key and value. -/
abbrev tEK : FVec Ideal S8x64 .f32 :=
  k0_pay24 kc.BhT kc.sameh kc.ltij (tAK kr a) (tGT k q kp a) (tTIE k q kp a) 1 0
abbrev tEV : FVec Ideal S8x64 .f32 :=
  k0_pay25 kc.BhT kc.sameh kc.ltij (tAV v a) (tGT k q kp a) (tTIE k q kp a) 1 0

theorem ek_at (h : Fin 8) (d : Fin 64) :
    tEK k q kr kp a (ix2 h d) = (headOf a h).ek (k.val + 1) (rowOf q h) (rowOf kr h) (rowOf kp h) d := by
  unfold tEK k0_pay24 k0_pay23
  pointwise
  simp only [sel_mul, ga, em_at, aK_at]
  rfl

theorem ev_at (h : Fin 8) (d : Fin 64) :
    tEV k q v kp a (ix2 h d) = (headOf a h).ev (k.val + 1) (rowOf q h) (rowOf v h) (rowOf kp h) d := by
  unfold tEV k0_pay25 k0_pay23
  pointwise
  simp only [sel_mul, ga, em_at, aV_at]
  rfl

/-- The indicator of the next token's slot. -/
abbrev tINS : FVec Ideal S256x1 .f32 :=
  k0_pay26 kc.slot kc.sameh kc.ltij (tok k) (tGT k q kp a) (tTIE k q kp a) 1 0

theorem sel_slot (c : Fin 32) (n : ℕ) (x y : EReal) :
    Scalar.select (IntOp.cmpi CmpIPredicate.eq (BitVec.ofNat 32 c.val) (BitVec.ofNat 32 (min n 28))) x y
      = if c.val = min n 28 then x else y :=
  sel_ite (eq_word (by omega) (by omega)) x y

theorem ins_at (h : Fin 8) (c : Fin 32) :
    tINS k q kp a (ix2 (sl h c) (0 : Fin 1)) = (headOf a h).ins' (k.val + 1) (rowOf q h) (rowOf kp h) c := by
  unfold tINS k0_pay26
  pointwise
  simp only [full_eq, next_eq, sel_if, em_at, slot_sl, sel_slot]
  rfl

/-! ## The residual -/

/-- The comparison array of the likeness rank. -/
abbrev tSIM : FVec Ideal S128x128 .f32 :=
  k0_pay33 kc.rslot kc.Br kc.ltijr a.2.2.2.1 (tEK k q kr kp a)

theorem sel_lt14 (r : Fin 16) (x y : EReal) :
    Scalar.select (IntOp.cmpi CmpIPredicate.slt (BitVec.ofNat 32 r.val) 14#32) x y = if r.val < 14 then x else y :=
  sel_ite (slt_word (by omega) (by omega)) x y

theorem oh_at (h : Fin 8) (r : Fin 16) (x y : EReal) :
    Scalar.select (k0_pay34 kc.samehr (tSIM k q kr kp a) (ix2 (rsl h r) (0 : Fin 1))) x y
      = if (headOf a h).oh (k.val + 1) (rowOf q h) (rowOf kr h) (rowOf kp h) r then x else y := by
  unfold k0_pay34 tSIM k0_pay33
  pointwise
  simp only [rsa, rbc, lt_rsl, ek_at, mask_eq, rslot_rsl, sel_lt14]
  refine if_congr ?_ rfl rfl
  refine (Eq.congr_left (sum_before' ((headOf a h).sims (k.val + 1) (rowOf q h) (rowOf kr h) (rowOf kp h)) r)).trans ?_
  unfold Slots.oh
  rw [← Nat.cast_zero]
  exact EReal.natCast_eq_iff

theorem sel_app (r : Fin 16) (t : ℕ) (x y : EReal) :
    Scalar.select (IntOp.cmpi CmpIPredicate.eq (BitVec.ofNat 32 r.val) (BitVec.ofNat 32 (nr t))) x y
      = if r.val = nr t then x else y :=
  sel_ite (eq_word (by omega) (by unfold nr; omega)) x y

theorem sel_nr (r : Fin 16) (t : ℕ) (x y : EReal) :
    Scalar.select (IntOp.cmpi CmpIPredicate.slt (BitVec.ofNat 32 r.val) (BitVec.ofNat 32 (nr t))) x y
      = if r.val < nr t then x else y :=
  sel_ite (slt_word (by omega) (nr_lt t)) x y

/-- The residual's keys, values and counts after the trip. -/
abbrev tRK : FVec Ideal S128x64 .f32 :=
  k0_pay38 kc.Br kc.BrT kc.samehr a.2.2.2.1 a.2.2.2.2.2.1 (tok k) (nres (tok k)) (tEK k q kr kp a)
    (k0_pay28 kc.rslot kc.BhT kc.Br kc.sameh kc.ltij a.2.2.2.1 (nres (tok k)) (tAK kr a) (tGT k q kp a)
      (tTIE k q kp a) 1 0) (tSIM k q kr kp a)
abbrev tRV : FVec Ideal S128x64 .f32 :=
  k0_pay39 kc.Br kc.BrT kc.samehr a.2.2.2.2.1 a.2.2.2.2.2.1 (tok k) (nres (tok k)) (tEV k q v kp a)
    (k0_pay31 a.2.2.2.2.1 (k0_pay29 kc.BhT kc.Br kc.sameh kc.ltij (tAV v a) (tGT k q kp a)
      (tTIE k q kp a) 1 0) (k0_pay30 kc.rslot (nres (tok k)))) (tSIM k q kr kp a)
abbrev tRC : FVec Ideal S128x1 .f32 :=
  k0_pay40 kc.samehr a.2.2.2.2.2.1 (tok k) (nres (tok k))
    (k0_pay32 a.2.2.2.2.2.1 (k0_pay27 kc.rslot (nres (tok k)))) (tSIM k q kr kp a)

theorem rK_at (h : Fin 8) (r : Fin 16) (d : Fin 64) :
    tRK k q kr kp a (ix2 (rsl h r) d)
      = (headOf a h).rK' (k.val + 1) (rowOf q h) (rowOf kr h) (rowOf kp h) r d := by
  unfold tRK k0_pay38 k0_pay37 k0_pay36 k0_pay35 k0_pay28 k0_pay27
  pointwise
  simp only [full_eq, room_eq, nres_eq, sel_if, rslot_rsl, sel_app, sel_mul, rga, rbc, ek_at, oh_at]
  rfl

theorem rV_at (h : Fin 8) (r : Fin 16) (d : Fin 64) :
    tRV k q kr v kp a (ix2 (rsl h r) d)
      = (headOf a h).rV' (k.val + 1) (rowOf q h) (rowOf kr h) (rowOf v h) (rowOf kp h) r d := by
  unfold tRV k0_pay39 k0_pay37 k0_pay36 k0_pay35 k0_pay31 k0_pay30 k0_pay29 k0_pay27
  pointwise
  simp only [full_eq, room_eq, nres_eq, sel_if, rslot_rsl, sel_app, sel_mul, rga, rbc, ev_at, oh_at]
  rfl

theorem rc_at (h : Fin 8) (r : Fin 16) :
    tRC k q kr kp a (ix2 (rsl h r) (0 : Fin 1))
      = (headOf a h).rc' (k.val + 1) (rowOf q h) (rowOf kr h) (rowOf kp h) r := by
  unfold tRC k0_pay40 k0_pay35 k0_pay32 k0_pay27
  pointwise
  simp only [full_eq, room_eq, nres_eq, sel_if, rslot_rsl, sel_app, oh_at]
  rfl

/-! ## The attention -/

abbrev tFC : FVec Ideal S256x1 .f32 :=
  k0_pay42 kc.Bh (k0_pay5 q) (k0_pay6 kr) (k0_pay11 kc.Bh a.1 q) (k0_pay14 a.2.2.2.2.2.2) (tNS k q kp a)
    (Scalar.ofBits .f32 0xEFA18F08#32)

theorem fC_at (h : Fin 8) (c : Fin 32) :
    tFC k q kr kp a (ix2 (sl h c) (0 : Fin 1))
      = (headOf a h).fC (k.val + 1) (rowOf q h) (rowOf kr h) (rowOf kp h) c := by
  unfold tFC k0_pay42 k0_pay41 k0_pay14 k0_pay5 k0_pay6
  pointwise
  simp only [bc, sc_at, nS_at]
  rfl

abbrev tFR : FVec Ideal S128x1 .f32 :=
  k0_pay43 kc.rslot (tok k) (k0_pay8 kc.Br q) (tRK k q kr kp a) (tRC k q kr kp a)

theorem fR_at (h : Fin 8) (r : Fin 16) :
    tFR k q kr kp a (ix2 (rsl h r) (0 : Fin 1))
      = (headOf a h).fR (k.val + 1) (rowOf q h) (rowOf kr h) (rowOf kp h) r := by
  unfold tFR k0_pay43 k0_pay8 k0_pay5
  pointwise
  simp only [rbc, rK_at, rc_at, rslot_rsl, nres_eq', sel_nr]
  rfl

theorem row_at (h : Fin 8) (d : Fin 64) :
    k0_pay3 (k0_pay7 v) (tRV k q kr v kp a) (k0_pay44 (k0_pay5 q) (k0_pay6 kr))
      (k0_pay45 kc.rslot kc.Bh kc.BhT kc.BrT (tok k) (k0_pay5 q) (k0_pay6 kr) (k0_pay8 kc.Br q)
        (k0_pay11 kc.Bh a.1 q) (k0_pay14 a.2.2.2.2.2.2) (tNS k q kp a) (tRK k q kr kp a) (tRC k q kr kp a)
        (Scalar.ofBits .f32 0xEFA18F08#32))
      (k0_pay46 kc.rslot kc.BrT (tok k) (k0_pay8 kc.Br q) (tRK k q kr kp a) (tRC k q kr kp a))
      (k0_pay47 kc.Bh kc.BhT (k0_pay5 q) (k0_pay6 kr) (k0_pay11 kc.Bh a.1 q) (k0_pay14 a.2.2.2.2.2.2)
        (tAV v a) (tNS k q kp a) (Scalar.ofBits .f32 0xEFA18F08#32))
      (constant S8x64 .f32 0x00000000#32) (ix3 (0 : Fin 1) h d)
      = (headOf a h).out (k.val + 1) (rowOf q h) (rowOf kr h) (rowOf v h) (rowOf kp h) d := by
  have hc := fC_at k q kr kp a h
  have hr := fR_at k q kr kp a h
  have hv := rV_at k q kr v kp a h
  have hav := aV_at v a h
  unfold tFC at hc
  unfold tFR at hr
  unfold k0_pay47 k0_pay46 k0_pay45 k0_pay44 k0_pay41 k0_pay3
  generalize k0_pay42 (F := Ideal) _ _ _ _ _ _ _ = fc at hc ⊢
  generalize k0_pay43 (F := Ideal) _ _ _ _ _ = fr at hr ⊢
  generalize tRV k q kr v kp a = rv at hv ⊢
  generalize tAV v a = av at hav ⊢
  unfold k0_pay5 k0_pay6 k0_pay7
  pointwise
  simp only [ga2, rga2, ga, rga, hc, hr, hv, hav]
  rfl

theorem one_word : (Scalar.ofBits .f32 0x3F800000#32 : Ideal .f32) = 1 := Ideal.ofBits_one_f32
theorem zero_word : (Scalar.ofBits .f32 0x00000000#32 : Ideal .f32) = 0 := Ideal.ofBits_zero_f32

theorem head_next (h : Fin 8) :
    headOf (tripStep kc k q kr v kp a).1 h
      = (headOf a h).next (k.val + 1) (rowOf q h) (rowOf kr h) (rowOf v h) (rowOf kp h) := by
  unfold tripStep
  simp only [one_word, zero_word]
  unfold headOf
  refine Slots.mk.injEq .. |>.mpr ⟨?_, ?_, ?_, ?_, ?_, ?_, ?_⟩
  · exact funext fun c => funext fun d => aK_at kr a h c d
  · exact funext fun c => funext fun d => aV_at v a h c d
  · exact funext fun c => nS_at k q kp a h c
  · exact funext fun r => funext fun d => rK_at k q kr kp a h r d
  · exact funext fun r => funext fun d => rV_at k q kr v kp a h r d
  · exact funext fun r => rc_at k q kr kp a h r
  · exact funext fun c => ins_at k q kp a h c

theorem head_out (h : Fin 8) (d : Fin 64) :
    (tripStep kc k q kr v kp a).2 (ix3 (0 : Fin 1) h d)
      = (headOf a h).out (k.val + 1) (rowOf q h) (rowOf kr h) (rowOf v h) (rowOf kp h) d := by
  unfold tripStep
  simp only [one_word, zero_word]
  exact row_at k q kr v kp a h d

end

end Cert.Attn

end
-- ==== Proof.Places.lean ====
/-
  One head of the reference's cache as plain mathematics: twenty-nine context places, fourteen
  residual places, and one token's step over them.
-/
module

public import proofs.«01_k».proof.Proof.Slots

@[expose] public section

noncomputable section

namespace Cert.Attn

open Idealize.ShloMosaic
open Slots (norm)

/-- The cache of one head, by place. -/
structure Places where
  K : Fin 29 → Row
  V : Fin 29 → Row
  s : Fin 29 → EReal
  free : BitVec 32
  rK : Fin 14 → Row
  rV : Fin 14 → Row
  rc : Fin 14 → EReal

namespace Places

variable (t : ℕ) (q k v kp : Row) (S : Places)

/-- The scaled score of a row of keys. -/
def sc (q a : Row) : EReal := Ideal.div (dot a q) (Ideal.ofBits .f32 0x41000000#32)

/-- The exponentials of the scores: context, residual, previous key. -/
def eC (c : Fin 29) : EReal := if ⊥ < S.s c then Ideal.exp (sc q (S.K c)) else 0
def eR (r : Fin 14) : EReal := if r.val < nr t then Ideal.exp (sc q (S.rK r)) else 0
def eP : EReal := Ideal.exp (sc q kp)

/-- Their sum. -/
def den : EReal := ∑ c, S.eC q c + ∑ r, S.eR t q r + eP q kp

/-- The score the new entry starts with. -/
def newS : EReal := if 0 < nr t then Ideal.div (S.eR t q 0) (S.den t q kp) else Ideal.div (eP q kp) (S.den t q kp)

/-- The place the token goes into. -/
def enters (c : Fin 29) : Prop := BitVec.ofNat 32 c.val = S.free

instance (c : Fin 29) : Decidable (S.enters c) := inferInstanceAs (Decidable (BitVec.ofNat 32 c.val = S.free))

/-- Scores, keys and values once the token has entered. -/
def aS (c : Fin 29) : EReal :=
  if S.enters c then S.newS t q kp else S.s c * decay + Ideal.div (S.eC q c) (S.den t q kp)
def aK (c : Fin 29) : Row := fun d => if S.enters c then k d else S.K c d
def aV (c : Fin 29) : Row := fun d => if S.enters c then v d else S.V c d

/-- The last place of the lowest score. -/
def leaves : BitVec 32 :=
  Finset.univ.fold IntOp.maxsi 2147483648#32 fun c : Fin 29 =>
    if S.aS t q kp c = Finset.univ.fold min ⊤ (S.aS t q kp) then BitVec.ofNat 32 c.val else 4294967295#32
def gone (c : Fin 29) : Prop := BitVec.ofNat 32 c.val = S.leaves t q kp

instance (c : Fin 29) : Decidable (S.gone t q kp c) :=
  inferInstanceAs (Decidable (BitVec.ofNat 32 c.val = S.leaves t q kp))

/-- Its key and value. -/
def ek : Row := fun d => ∑ c, if S.gone t q kp c then S.aK k c d else 0
def ev : Row := fun d => ∑ c, if S.gone t q kp c then S.aV v c d else 0

/-- The scores once it has left, and the next free place. -/
def nS (c : Fin 29) : EReal := if 28 ≤ t ∧ S.gone t q kp c then ⊥ else S.aS t q kp c
def free' : BitVec 32 := if 28 ≤ t then S.leaves t q kp else BitVec.ofNat 32 (t + 1)

/-- The likeness of a residual key and the leaving key, and the first of the likest. -/
def sims (r : Fin 14) : EReal :=
  Ideal.div (dot (S.rK r) (S.ek t q k kp)) (norm (S.rK r) * norm (S.ek t q k kp))
def likest : BitVec 32 :=
  Finset.univ.fold IntOp.minsi 2147483647#32 fun r : Fin 14 =>
    if S.sims t q k kp r = Finset.univ.fold max ⊥ (S.sims t q k kp) then BitVec.ofNat 32 r.val else 14#32

/-- The residual place the leaving entry goes into. -/
def into (r : Fin 14) : Prop :=
  28 ≤ t ∧ BitVec.ofNat 32 r.val = if nr t < 14 then BitVec.ofNat 32 (nr t) else S.likest t q k kp

instance (r : Fin 14) : Decidable (S.into t q k kp r) :=
  inferInstanceAs (Decidable (28 ≤ t ∧ BitVec.ofNat 32 r.val = if nr t < 14 then BitVec.ofNat 32 (nr t) else S.likest t q k kp))

/-- The residual once the entry has left. -/
def rK' (r : Fin 14) : Row := fun d =>
  if S.into t q k kp r then
    if nr t < 14 then S.ek t q k kp d else Ideal.div (S.rc r * S.rK r d + S.ek t q k kp d) (S.rc r + 1)
  else S.rK r d
def rV' (r : Fin 14) : Row := fun d =>
  if S.into t q k kp r then
    if nr t < 14 then S.ev t q v kp d else Ideal.div (S.rc r * S.rV r d + S.ev t q v kp d) (S.rc r + 1)
  else S.rV r d
def rc' (r : Fin 14) : EReal :=
  if S.into t q k kp r then if nr t < 14 then 1 else S.rc r + 1 else S.rc r

/-- The exponentials of the attention scores, and their sum. -/
def fC (c : Fin 29) : EReal :=
  if ⊥ < S.nS t q kp c then Ideal.exp (sc q (S.aK k c) + alpha * Ideal.log 1) else 0
def fR (r : Fin 14) : EReal :=
  if r.val < nr (t + 1) then Ideal.exp (sc q (S.rK' t q k kp r) + alpha * Ideal.log (S.rc' t q k kp r)) else 0
def fP (q k : Row) : EReal := Ideal.exp (sc q k + alpha * Ideal.log 1)
def fden : EReal := ∑ c, S.fC t q k kp c + ∑ r, S.fR t q k kp r + fP q k

/-- The attention row. -/
def out : Row := fun d =>
  ∑ c, Ideal.div (S.fC t q k kp c) (S.fden t q k kp) * S.aV v c d
    + ∑ r, Ideal.div (S.fR t q k kp r) (S.fden t q k kp) * S.rV' t q k v kp r d
    + Ideal.div (fP q k) (S.fden t q k kp) * v d

/-- The cache after the token. -/
def next : Places where
  K := S.aK k
  V := S.aV v
  s := S.nS t q kp
  free := S.free' t q kp
  rK := S.rK' t q k kp
  rV := S.rV' t q k v kp
  rc := S.rc' t q k kp

end Places

end Cert.Attn

end
-- ==== Proof.History.lean ====
/-
  One head's cache token by token, in both forms: what it holds after the first token, and the steps
  over the tokens that follow.
-/
module

public import proofs.«01_k».proof.Proof.Places

@[expose] public section

noncomputable section

namespace Cert.Attn

open Idealize.ShloMosaic

/-- The slots once the first token is in. -/
def Slots.start (k v : Row) : Slots where
  K c d := if c.val = 0 then k d else 0
  V c d := if c.val = 0 then v d else 0
  s c := if c.val = 0 then 1 else ⊥
  rK _ _ := 0
  rV _ _ := 0
  rc _ := 1
  ins c := ind (c.val = 1)

/-- The places once the first token is in. -/
def Places.start (k v : Row) : Places where
  K c d := if c.val = 0 then k d else 0
  V c d := if c.val = 0 then v d else 0
  s c := if c.val = 0 then 1 else ⊥
  free := 1#32
  rK _ _ := 0
  rV _ _ := 0
  rc _ := 1

variable (q k v : ℕ → Row)

/-- The slots after token `n`. -/
def Slots.run : ℕ → Slots
  | 0 => Slots.start (k 0) (v 0)
  | n + 1 => (Slots.run n).next (n + 1) (q (n + 1)) (k (n + 1)) (v (n + 1)) (k n)

/-- The places after token `n`. -/
def Places.run : ℕ → Places
  | 0 => Places.start (k 0) (v 0)
  | n + 1 => (Places.run n).next (n + 1) (q (n + 1)) (k (n + 1)) (v (n + 1)) (k n)

/-- The attention row of token `n`, from the slots. -/
def Slots.row : ℕ → Row
  | 0 => fun _ => 0
  | n + 1 => (Slots.run q k v n).out (n + 1) (q (n + 1)) (k (n + 1)) (v (n + 1)) (k n)

/-- The attention row of token `n`, from the places. -/
def Places.row : ℕ → Row
  | 0 => fun _ => 0
  | n + 1 => (Places.run q k v n).out (n + 1) (q (n + 1)) (k (n + 1)) (v (n + 1)) (k n)

/-- The rows of head `h` in a stored array of tokens, heads and coordinates. -/
def tokens (x : Fin 64 → Fin 8 → Row) (h : Fin 8) (n : ℕ) : Row :=
  if hn : n < 64 then x ⟨n, hn⟩ h else fun _ => 0

end Cert.Attn

end
-- ==== Proof.KernelHist.lean ====
/-
  The kernel's loop from its first trip to its last: before each trip the carried arrays hold, head
  by head, the slots after the token before, and the stored rows are their attention rows.
-/
module

public import proofs.«01_k».proof.Proof.BodyRows
public import proofs.«01_k».proof.Proof.TripAt
public import proofs.«01_k».proof.Proof.History
public import Idealize.ShloMosaic.Lib.Pipeline.ValueKit.Tiles

@[expose] public section

set_option maxRecDepth 16384

noncomputable section

namespace Cert.Attn

open Idealize.ShloMosaic Idealize.ShloMosaic.TcCoe Idealize.ShloMosaic.Tactic
open Cert.KernelIdeal Cert.KernelIdeal.Gen

/-- The rows of head `h` in a stored array. -/
def ktoks (x : Vec Ideal S64x8x64 .f32) (h : Fin 8) : ℕ → Row := tokens (fun t h d => x (ix3 t h d)) h

theorem ktoks_at (x : Vec Ideal S64x8x64 .f32) (h : Fin 8) (n : ℕ) (hn : n < 64) (d : Fin 64) :
    ktoks x h n d = x (ix3 (⟨n, hn⟩ : Fin 64) h d) := by
  unfold ktoks tokens
  rw [dif_pos hn]

theorem trips63 : k0_t1_loop.trips = 63 := by decide +kernel

theorem row_ld (x : Vec Ideal S64x8x64 .f32) (i : Fin k0_t1_loop.trips) (h : Fin 8) :
    rowOf (View.ld x (rowRect i)) h = ktoks x h (i.val + 1) := by
  have hi : i.val < 63 := trips63 ▸ i.isLt
  funext d
  rw [ktoks_at x h (i.val + 1) (by omega) d]
  refine View.ld_unit_apply_of x _ _ _ _ _ fun a => ?_
  refine Eq.trans ?_ (congrArg (· + _) (congrFun (k0_off1_eq i) a).symm)
  fin_cases a
  · rfl
  · exact (Nat.zero_add h.val).symm
  · exact (Nat.zero_add d.val).symm

theorem prev_ld (x : Vec Ideal S64x8x64 .f32) (i : Fin k0_t1_loop.trips) (h : Fin 8) :
    rowOf (View.ld x (prevRect i)) h = ktoks x h i.val := by
  have hi : i.val < 63 := trips63 ▸ i.isLt
  funext d
  rw [ktoks_at x h i.val (by omega) d]
  refine View.ld_unit_apply_of x _ _ _ _ _ fun a => ?_
  refine Eq.trans ?_ (congrArg (· + _) (congrFun (k0_off2_eq i) a).symm)
  fin_cases a
  · rfl
  · exact (Nat.zero_add h.val).symm
  · exact (Nat.zero_add d.val).symm

theorem first_ld (x : Vec Ideal S64x8x64 .f32) (h : Fin 8) :
    rowOf (View.ld x rect0) h = ktoks x h 0 := by
  funext d
  rw [ktoks_at x h 0 (by omega) d]
  refine View.ld_unit_apply_of x _ _ _ _ _ fun a => ?_
  fin_cases a
  · rfl
  · exact (Nat.zero_add h.val).symm
  · exact (Nat.zero_add d.val).symm

theorem slot_zero : ∀ c : Fin 32, IntOp.cmpi CmpIPredicate.eq (BitVec.ofNat 32 c.val) 0#32 = if c.val = 0 then 1#1 else 0#1 := by
  decide +kernel

theorem slot_one : ∀ c : Fin 32, IntOp.cmpi CmpIPredicate.eq (BitVec.ofNat 32 c.val) 1#32 = if c.val = 1 then 1#1 else 0#1 := by
  decide +kernel

theorem first_rows (x : Vec Ideal S1x8x64 .f32) (h : Fin 8) (c : Fin 32) (d : Fin 64) :
    k0_pay78 kc.slot kc.Bh x (ix2 (sl h c) d) = if c.val = 0 then rowOf x h d else 0 := by
  unfold k0_pay78 k0_pay77
  pointwise
  rw [slot_sl, slot_zero, sel_if, bc h c fun y => x (ix3 (0 : Fin 1) y d)]
  rfl

theorem first_vals (x : Vec Ideal S1x8x64 .f32) (h : Fin 8) (c : Fin 32) (d : Fin 64) :
    k0_pay79 kc.slot kc.Bh x (ix2 (sl h c) d) = if c.val = 0 then rowOf x h d else 0 :=
  first_rows x h c d

theorem first_score (h : Fin 8) (c : Fin 32) :
    k0_pay80 (F := Ideal) kc.slot (ix2 (sl h c) (0 : Fin 1)) = if c.val = 0 then 1 else ⊥ := by
  unfold k0_pay80
  pointwise
  rw [slot_sl, slot_zero, sel_if, mask_eq]

theorem first_ins (h : Fin 8) (c : Fin 32) :
    k0_pay1 (F := Ideal) (k0_pay84 kc.slot) (Scalar.ofBits .f32 0x3F800000#32) (ix2 (sl h c) (0 : Fin 1))
      = Attn.ind (c.val = 1) := by
  unfold k0_pay1 k0_pay84
  pointwise
  rw [slot_sl, slot_one, sel_if]
  rfl

theorem head_first (k0 v0 : Vec Ideal S1x8x64 .f32) (h : Fin 8) :
    headOf (carry0 k0 v0) h = Slots.start (rowOf k0 h) (rowOf v0 h) := by
  unfold headOf carry0 Slots.start
  refine Slots.mk.injEq .. |>.mpr ⟨?_, ?_, ?_, ?_, ?_, ?_, ?_⟩
  · exact funext fun c => funext fun d => first_rows k0 h c d
  · exact funext fun c => funext fun d => first_vals v0 h c d
  · exact funext fun c => first_score h c
  · exact funext fun r => funext fun d => zero_word
  · exact funext fun r => funext fun d => zero_word
  · exact funext fun r => one_word
  · exact funext fun c => first_ins h c

section
variable (q k v : Vec Ideal S64x8x64 .f32)

theorem head_carry (h : Fin 8) (n : ℕ) (hn : n ≤ 63) :
    headOf (carry q k v n) h = Slots.run (ktoks q h) (ktoks k h) (ktoks v h) n := by
  induction n with
  | zero =>
    refine (head_first _ _ h).trans ?_
    rw [first_ld, first_ld]
    rfl
  | succ n ih =>
    have hlt : n < k0_t1_loop.trips := by rw [trips63]; omega
    unfold carry
    rw [dif_pos hlt]
    unfold trip
    refine (head_next ⟨n, hlt⟩ _ _ _ _ _ h).trans ?_
    rw [ih (by omega), row_ld, row_ld, row_ld, prev_ld]
    rfl

theorem rows_at (t : Fin 64) (h : Fin 8) (d : Fin 64) :
    rows q k v (ix3 t h d) = Slots.row (ktoks q h) (ktoks k h) (ktoks v h) t.val d := by
  obtain ⟨t, ht⟩ := t
  cases t with
  | zero =>
    unfold rows
    rw [dif_neg (fun e => absurd e.1 (Nat.lt_irrefl 0))]
    unfold k0_pay2
    pointwise
    rfl
  | succ n =>
    have hlt : n < k0_t1_loop.trips := by rw [trips63]; omega
    unfold rows
    refine (dif_pos (show 0 < n + 1 ∧ n + 1 - 1 < k0_t1_loop.trips from ⟨Nat.succ_pos n, hlt⟩)).trans ?_
    refine (head_out ⟨n, hlt⟩ _ _ _ _ _ h d).trans ?_
    rw [row_ld, row_ld, row_ld, prev_ld]
    show (headOf (carry q k v n) h).out _ _ _ _ _ _ = _
    rw [head_carry q k v h n (by omega)]
    rfl

end

end Cert.Attn

end
-- ==== Proof.RefAt.lean ====
/-
  One trip of the reference's loop, read head by head: each array the trip computes, at a place of a
  head, is what the plain step over that head's places says.
-/
module

public import proofs.«01_k».proof.Proof.Gen.ReferenceIdeal.Step
public import proofs.«01_k».proof.Proof.Places
public import proofs.«01_k».proof.Proof.ConstVals

@[expose] public section

set_option maxRecDepth 16384

noncomputable section

namespace Cert.Attn.Ref

open Idealize.ShloMosaic Idealize.ShloMosaic.TcCoe Idealize.ShloMosaic.Tactic
open Cert.ReferenceIdeal Cert.ReferenceIdeal.Step

/-! ## The token's rows -/

theorem slice_row (x : Fin 3 → ℤ) (n : Fin 64) (h0 : x 0 = (n.val : ℕ)) (h1 : x 1 = 0) (h2 : x 2 = 0)
    (h : Fin 8) (d : Fin 64) (f : FVec Ideal S64x8x64 .f32) :
    Host.dynamicSlice S1x8x64 f x Gen.sliceFits_S64x8x64_S1x8x64 (ix3 (0 : Fin 1) h d) = f (ix3 n h d) := by
  pointwise
  refine congrArg f ?_
  rw [ix3_inj]
  refine ⟨Fin.ext ?_, Fin.ext ?_, Fin.ext ?_⟩
  · exact Host.clampedStart_of_le (s := S64x8x64) (t := S1x8x64) rfl x 0 n.val h0 (show n.val + 1 ≤ 64 by omega)
  · show Host.clampedStart _ _ _ _ 1 + h.val = h.val
    rw [Host.clampedStart_of_le _ _ 1 0 (by simpa using h1) (by simp)]
    omega
  · show Host.clampedStart _ _ _ _ 2 + d.val = d.val
    rw [Host.clampedStart_of_le _ _ 2 0 (by simpa using h2) (by simp)]
    omega

theorem word_row : ∀ t : Fin 64,
    BitVec.toInt (select (cmpi CmpIPredicate.slt (fun _ => BitVec.ofNat 32 t.val) (constantI S_ 32 0#32))
      (addi (fun _ => BitVec.ofNat 32 t.val) (constantI S_ 32 64#32)) (fun _ => BitVec.ofNat 32 t.val)
      (Shape.Idx.first Gen.h_S_)) = (t.val : ℕ) := by
  decide +kernel

theorem word_prev : ∀ t : Fin 63,
    BitVec.toInt (select (cmpi CmpIPredicate.slt (subi (fun _ => BitVec.ofNat 32 (t.val + 1)) (constantI S_ 32 1#32)) (constantI S_ 32 0#32))
      (addi (subi (fun _ => BitVec.ofNat 32 (t.val + 1)) (constantI S_ 32 1#32)) (constantI S_ 32 64#32))
      (subi (fun _ => BitVec.ofNat 32 (t.val + 1)) (constantI S_ 32 1#32))
      (Shape.Idx.first Gen.h_S_)) = (t.val : ℕ) := by
  decide +kernel

theorem word_zero8 :
    BitVec.toInt (select (cmpi CmpIPredicate.slt (constantI S_ 32 0#32) (constantI S_ 32 0#32))
      (addi (constantI S_ 32 0#32) (constantI S_ 32 8#32)) (constantI S_ 32 0#32) (Shape.Idx.first Gen.h_S_)) = 0 := by
  decide +kernel

theorem word_zero64 :
    BitVec.toInt (select (cmpi CmpIPredicate.slt (constantI S_ 32 0#32) (constantI S_ 32 0#32))
      (addi (constantI S_ 32 0#32) (constantI S_ 32 64#32)) (constantI S_ 32 0#32) (Shape.Idx.first Gen.h_S_)) = 0 := by
  decide +kernel

section
variable (j : ℕ) (s : State Ideal) (i : Fin 63) (hs : s.main_v46_7 = fun _ => BitVec.ofNat 32 (i.val + 1))

/-- The token's number. -/
abbrev tk (i : Fin 63) : Fin 64 := ⟨i.val + 1, by omega⟩
/-- The number before it. -/
abbrev tp (i : Fin 63) : Fin 64 := ⟨i.val, by omega⟩

include hs

theorem q_at (h : Fin 8) (d : Fin 64) : b25 j s (ix2 h d) = s.main_v46_0 (ix3 (tk i) h d) := by
  unfold b25
  pointwise
  unfold b24
  refine slice_row _ (tk i) ?_ ?_ ?_ h d _
  · show BitVec.toInt (b7 j s (Shape.Idx.first Gen.h_S_)) = _
    unfold b7 b6 b5 b4 b3 b2
    rw [hs]
    exact word_row (tk i)
  · exact word_zero8
  · exact word_zero64

theorem k_at (h : Fin 8) (d : Fin 64) : b49 j s (ix2 h d) = s.main_v46_1 (ix3 (tk i) h d) := by
  unfold b49
  pointwise
  unfold b48
  refine slice_row _ (tk i) ?_ ?_ ?_ h d _
  · show BitVec.toInt (b31 j s (Shape.Idx.first Gen.h_S_)) = _
    unfold b31 b30 b29 b28 b27 b26
    rw [hs]
    exact word_row (tk i)
  · exact word_zero8
  · exact word_zero64

theorem v_at (h : Fin 8) (d : Fin 64) : b73 j s (ix2 h d) = s.main_v46_2 (ix3 (tk i) h d) := by
  unfold b73
  pointwise
  unfold b72
  refine slice_row _ (tk i) ?_ ?_ ?_ h d _
  · show BitVec.toInt (b55 j s (Shape.Idx.first Gen.h_S_)) = _
    unfold b55 b54 b53 b52 b51 b50
    rw [hs]
    exact word_row (tk i)
  · exact word_zero8
  · exact word_zero64

theorem kp_at (h : Fin 8) (d : Fin 64) : b99 j s (ix2 h d) = s.main_v46_1 (ix3 (tp i) h d) := by
  unfold b99
  pointwise
  unfold b98
  refine slice_row _ (tp i) ?_ ?_ ?_ h d _
  · show BitVec.toInt (b81 j s (Shape.Idx.first Gen.h_S_)) = _
    unfold b81 b80 b79 b78 b77 b76 b75 b74
    rw [hs]
    exact word_prev i
  · exact word_zero8
  · exact word_zero64

end

/-! ## The weights of the cache -/

/-- The places of head `h` in the state. -/
def placesOf (s : State Ideal) (h : Fin 8) : Places where
  K c d := s.main_v46_8 (ix3 h c d)
  V c d := s.main_v46_9 (ix3 h c d)
  s c := s.main_v46_10 (ix2 h c)
  free := s.main_v46_11 (ix1 h)
  rK r d := s.main_v46_12 (ix3 h r d)
  rV r d := s.main_v46_13 (ix3 h r d)
  rc r := s.main_v46_14 (ix2 h r)

/-- The three kinds of places among the forty-four. -/
def pc (c : Fin 29) : Fin 44 := ⟨c.val, by omega⟩
def pr (r : Fin 14) : Fin 44 := ⟨29 + r.val, by omega⟩
def pl : Fin 44 := ⟨43, by omega⟩

theorem sum44 (f : Fin 44 → EReal) : ∑ i, f i = ∑ c, f (pc c) + ∑ r, f (pr r) + f pl := by
  have e : ∑ i : Fin (43 + 1), f i = _ := Fin.sum_univ_castSucc f
  have e2 : ∑ i : Fin (29 + 14), f (Fin.castSucc i) = _ := Fin.sum_univ_add (fun i : Fin (29 + 14) => f (Fin.castSucc i))
  exact e.trans (congrArg (· + _) e2)

/-- Token, key and value rows of the state. -/
def tokRow (x : FVec Ideal S64x8x64 .f32) (t : Fin 64) (h : Fin 8) : Row := fun d => x (ix3 t h d)

theorem lo_word : Ideal.ofBits .f32 0xFF800000#32 = ⊥ := by
  simp [Ideal.ofBits, Ideal.ieee, -EReal.coe_mul]

theorem hi_word : Ideal.ofBits .f32 0x7F800000#32 = ⊤ := by
  simp [Ideal.ofBits, Ideal.ieee, -EReal.coe_mul]

theorem nres_word : ∀ i : Fin 63,
    IntOp.minsi 14#32 (IntOp.maxsi 0#32 (IntOp.subi (BitVec.ofNat 32 (i.val + 1)) 28#32)) = BitVec.ofNat 32 (nr (i.val + 1)) := by
  decide +kernel

section
variable (j : ℕ) (s : State Ideal) (i : Fin 63) (hs : s.main_v46_7 = fun _ => BitVec.ofNat 32 (i.val + 1))
include hs

theorem n_at : b105 j s ix0 = BitVec.ofNat 32 (nr (i.val + 1)) := by
  unfold b105 b104 b103 b102 b101 b100
  pointwise
  rw [hs]
  exact nres_word i

omit hs

theorem sel_there {p : Prop} [Decidable p] (x y : EReal) :
    Scalar.select (IntOp.cmpi CmpIPredicate.ne (BitVec.ofBool (decide p)) 0#1) x y = if p then x else y := by
  by_cases hp : p <;> simp [hp, Scalar.select, IntOp.cmpi]

theorem sel_nres (r : Fin 14) (t : ℕ) (x y : EReal) :
    Scalar.select (IntOp.cmpi CmpIPredicate.slt (BitVec.ofNat 32 r.val) (BitVec.ofNat 32 (nr t))) x y
      = if r.val < nr t then x else y :=
  sel_ite (slt_word (by omega) (by unfold nr; omega)) x y

theorem pr_sub (r : Fin 14) : (pr r).val - 29 = r.val := by simp [pr]

theorem sel_eq {α : Type} (a b : BitVec 32) (x y : α) :
    Scalar.select (IntOp.cmpi CmpIPredicate.eq a b) x y = if a = b then x else y := by
  by_cases h : a = b
  · subst h; simp [Scalar.select, IntOp.cmpi]
  · simp only [Scalar.select, IntOp.cmpi, beq_eq_false_iff_ne.mpr h, h, if_false]; rfl

theorem sel_ifp {α : Type} (p : Prop) [Decidable p] (x y : α) :
    Scalar.select (if p then 1#1 else 0#1) x y = if p then x else y := sel_ite rfl x y

theorem sel_bool {p : Prop} [Decidable p] (x y : EReal) :
    Scalar.select (BitVec.ofBool (decide p)) x y = if p then x else y := by
  by_cases hp : p <;> simp [hp, Scalar.select]

theorem sel_one (x y : EReal) : Scalar.select 1#1 x y = x := rfl

include hs

theorem eC_at (h : Fin 8) (c : Fin 29) :
    b134 j s (ix2 h (pc c)) = (placesOf s h).eC (tokRow s.main_v46_0 (tk i) h) c := by
  unfold b134 b133 b132 b131 b130 b129 b128 b127 b126 b125 b124 b123 b122 b121 b120 b119 b118 b117 b112 b111 b110 b109
  pointwise
  have hc : (pc c).val < 29 := c.isLt
  simp only [dif_pos hc, q_at j s i hs, lo_word, sel_there]
  rfl

theorem eR_at (h : Fin 8) (r : Fin 14) :
    b134 j s (ix2 h (pr r)) = (placesOf s h).eR (i.val + 1) (tokRow s.main_v46_0 (tk i) h) r := by
  unfold b134 b133 b132 b131 b130 b129 b128 b127 b126 b125 b124 b123 b122 b121 b116 b115 b114 b113 b109 K_main_v24 K_main_v23
  pointwise
  have hc : ¬(pr r).val < 29 := by simp [pr]
  have hr : (pr r).val - 29 < 14 := by simp [pr]
  simp only [dif_neg hc, pr_sub, dif_pos r.isLt, q_at j s i hs, n_at j s i hs, sel_nres]
  rfl

theorem eP_at' (h : Fin 8) (x : Fin 44) (hx : x.val = 43) :
    b134 j s (ix2 h x) = Places.eP (tokRow s.main_v46_0 (tk i) h) (tokRow s.main_v46_1 (tp i) h) := by
  unfold b134 b133 b132 b131 b130 b129 b128 b127 b126 b125 b124 b123 b122 b121 b109 b108 b107 b106
  pointwise
  have hc : ¬x.val < 29 := by omega
  have hr : ¬x.val - 29 < 14 := by omega
  simp only [dif_neg hc, dif_neg hr, q_at j s i hs, kp_at j s i hs, sel_one]
  rfl

theorem eP_at (h : Fin 8) :
    b134 j s (ix2 h pl) = Places.eP (tokRow s.main_v46_0 (tk i) h) (tokRow s.main_v46_1 (tp i) h) :=
  eP_at' j s i hs h pl rfl

theorem den_at (h : Fin 8) :
    ∑ x, b134 j s (ix2 h x)
      = (placesOf s h).den (i.val + 1) (tokRow s.main_v46_0 (tk i) h) (tokRow s.main_v46_1 (tp i) h) := by
  rw [sum44]
  simp only [eC_at j s i hs, eR_at j s i hs, eP_at j s i hs]
  rfl

theorem aw_at (h : Fin 8) (x : Fin 44) :
    b139 j s (ix2 h x) = Ideal.div (b134 j s (ix2 h x))
      ((placesOf s h).den (i.val + 1) (tokRow s.main_v46_0 (tk i) h) (tokRow s.main_v46_1 (tp i) h)) := by
  rw [← den_at j s i hs]
  unfold b139 b138 b137 b136 b135
  pointwise

/-! ## The token enters, an entry leaves -/

omit hs in
theorem word_pos : ∀ i : Fin 63,
    IntOp.cmpi CmpIPredicate.sgt (BitVec.ofNat 32 (nr (i.val + 1))) 0#32 = if 0 < nr (i.val + 1) then 1#1 else 0#1 := by
  decide +kernel

theorem aS_at (h : Fin 8) (c : Fin 29) :
    b159 j s (ix2 h c)
      = (placesOf s h).aS (i.val + 1) (tokRow s.main_v46_0 (tk i) h) (tokRow s.main_v46_1 (tp i) h) c := by
  unfold b159 b158 b157 b156 b155 b154 b153 b152 b151 b150 b149 b148 b147 b146 b145 b144 b143 b142 b141 b140 K_main_v22 K_main_v21
  pointwise
  have e1 : b134 j s (ix2 h (29 : Fin 44)) = _ := eR_at j s i hs h 0
  have e2 : b134 j s (ix2 h (43 : Fin 44)) = _ := eP_at j s i hs h
  have e3 : ∀ hc, b134 j s (ix2 h (⟨c.val, hc⟩ : Fin 44)) = _ := fun _ => eC_at j s i hs h c
  simp only [aw_at j s i hs, n_at j s i hs, word_pos, e1, e2, e3, sel_eq, sel_ifp]
  rfl

theorem leaves_at (h : Fin 8) :
    b183 j s (ix1 h)
      = (placesOf s h).leaves (i.val + 1) (tokRow s.main_v46_0 (tk i) h) (tokRow s.main_v46_1 (tp i) h) := by
  unfold b183 b182 b181 b180 b179 b178 b177 b176 b175 b174 b173 b172 K_main_v22 K_main_v21
  pointwise
  simp only [aS_at j s i hs, hi_word]
  rfl

theorem aK_at (h : Fin 8) (c : Fin 29) (d : Fin 64) :
    b164 j s (ix3 h c d) = (placesOf s h).aK (tokRow s.main_v46_1 (tk i) h) c d := by
  unfold b164 b163 b162 b161 b160 b143 b142 b141 b140 K_main_v22 K_main_v21
  pointwise
  simp only [k_at j s i hs, sel_eq]
  rfl

theorem aV_at (h : Fin 8) (c : Fin 29) (d : Fin 64) :
    b169 j s (ix3 h c d) = (placesOf s h).aV (tokRow s.main_v46_2 (tk i) h) c d := by
  unfold b169 b168 b167 b166 b165 b143 b142 b141 b140 K_main_v22 K_main_v21
  pointwise
  simp only [v_at j s i hs, sel_eq]
  rfl

theorem gone_at {α : Type} (h : Fin 8) (c : Fin 29) (x y : α) :
    Scalar.select (b187 j s (ix2 h c)) x y
      = if (placesOf s h).gone (i.val + 1) (tokRow s.main_v46_0 (tk i) h) (tokRow s.main_v46_1 (tp i) h) c
        then x else y := by
  unfold b187 b186 b185 b184 K_main_v22 K_main_v21
  pointwise
  simp only [leaves_at j s i hs, sel_eq]
  rfl

theorem ek_at (h : Fin 8) (d : Fin 64) :
    b195 j s (ix2 h d) = (placesOf s h).ek (i.val + 1) (tokRow s.main_v46_0 (tk i) h)
      (tokRow s.main_v46_1 (tk i) h) (tokRow s.main_v46_1 (tp i) h) d := by
  unfold b195 b194 b193 b192 b191 b190 b189 b188
  pointwise
  simp only [gone_at j s i hs, aK_at j s i hs]
  rfl

theorem ev_at (h : Fin 8) (d : Fin 64) :
    b203 j s (ix2 h d) = (placesOf s h).ev (i.val + 1) (tokRow s.main_v46_0 (tk i) h)
      (tokRow s.main_v46_2 (tk i) h) (tokRow s.main_v46_1 (tp i) h) d := by
  unfold b203 b202 b201 b200 b199 b198 b197 b196
  pointwise
  simp only [gone_at j s i hs, aV_at j s i hs]
  rfl

omit hs in
theorem word_full : ∀ i : Fin 63,
    IntOp.cmpi CmpIPredicate.sge (BitVec.ofNat 32 (i.val + 1)) 28#32 = if 28 ≤ i.val + 1 then 1#1 else 0#1 := by
  decide +kernel

omit hs in
theorem sel_and {α : Type} (p : Prop) [Decidable p] (w : BitVec 1) (x y : α) :
    Scalar.select (IntOp.andi (IntOp.cmpi CmpIPredicate.ne (if p then 1#1 else 0#1) 0#1) w) x y
      = if p then Scalar.select w x y else y := by
  by_cases hp : p
  · simp only [hp, if_true]
    revert w; intro w
    have : w = 0#1 ∨ w = 1#1 := by revert w; decide
    rcases this with rfl | rfl <;> rfl
  · simp only [hp, if_false]
    have : w = 0#1 ∨ w = 1#1 := by revert w; decide
    rcases this with rfl | rfl <;> rfl

theorem nS_at (h : Fin 8) (c : Fin 29) :
    b213 j s (ix2 h c)
      = (placesOf s h).nS (i.val + 1) (tokRow s.main_v46_0 (tk i) h) (tokRow s.main_v46_1 (tp i) h) c := by
  unfold b213 b212 b211 b210 b209 b208 b207 b206 b205 b204 b171 b170
  rw [hs]
  pointwise
  simp only [word_full, sel_and, gone_at j s i hs, aS_at j s i hs, lo_word, ← ite_and]
  rfl

omit hs in
theorem word_next : ∀ i : Fin 63,
    IntOp.addi (BitVec.ofNat 32 (i.val + 1)) 1#32 = BitVec.ofNat 32 (i.val + 1 + 1) := by
  decide +kernel

theorem free_at (h : Fin 8) :
    b218 j s (ix1 h)
      = (placesOf s h).free' (i.val + 1) (tokRow s.main_v46_0 (tk i) h) (tokRow s.main_v46_1 (tp i) h) := by
  unfold b218 b217 b216 b215 b214 b171 b170
  rw [hs]
  pointwise
  simp only [word_full, sel_ifp, leaves_at j s i hs, word_next]
  rfl

/-! ## The residual -/

theorem sims_at (h : Fin 8) (r : Fin 14) :
    b243 j s (ix2 h r) = (placesOf s h).sims (i.val + 1) (tokRow s.main_v46_0 (tk i) h)
      (tokRow s.main_v46_1 (tk i) h) (tokRow s.main_v46_1 (tp i) h) r := by
  unfold b243 b242 b241 b240 b239 b238 b237 b236 b235 b234 b233 b232 b231 b230 b229 b228 b227 b226 b225 b224 b223 b222 b221
  pointwise
  simp only [ek_at j s i hs]
  rfl

theorem likest_at (h : Fin 8) :
    b255 j s (ix1 h) = (placesOf s h).likest (i.val + 1) (tokRow s.main_v46_0 (tk i) h)
      (tokRow s.main_v46_1 (tk i) h) (tokRow s.main_v46_1 (tp i) h) := by
  unfold b255 b254 b253 b252 b251 b250 b249 b248 b247 b246 b245 b244 K_main_v24 K_main_v23
  pointwise
  simp only [sims_at j s i hs, lo_word]
  rfl

omit hs in
theorem word_room : ∀ i : Fin 63,
    IntOp.cmpi CmpIPredicate.slt (BitVec.ofNat 32 (nr (i.val + 1))) 14#32 = if nr (i.val + 1) < 14 then 1#1 else 0#1 := by
  decide +kernel

theorem into_at (h : Fin 8) (r : Fin 14) (x y : EReal) :
    Scalar.select (b268 j s (ix2 h r)) x y
      = if (placesOf s h).into (i.val + 1) (tokRow s.main_v46_0 (tk i) h)
          (tokRow s.main_v46_1 (tk i) h) (tokRow s.main_v46_1 (tp i) h) r then x else y := by
  unfold b268 b267 b266 b265 b264 b263 b262 b261 b260 b259 b258 b257 b256 b220 b219 b171 b170 K_main_v24 K_main_v23
  rw [hs]
  pointwise
  simp only [word_full, sel_and, likest_at j s i hs, n_at j s i hs, word_room, sel_ifp, sel_eq, ← ite_and]
  rfl

theorem rK_at (h : Fin 8) (r : Fin 14) (d : Fin 64) :
    b285 j s (ix3 h r d) = (placesOf s h).rK' (i.val + 1) (tokRow s.main_v46_0 (tk i) h)
      (tokRow s.main_v46_1 (tk i) h) (tokRow s.main_v46_1 (tp i) h) r d := by
  unfold b285 b284 b283 b282 b281 b280 b279 b278 b277 b276 b275 b274 b273 b272 b271 b270 b269 b220 b219
  pointwise
  simp only [into_at j s i hs, n_at j s i hs, word_room, sel_ifp, ek_at j s i hs]
  rfl

theorem rV_at (h : Fin 8) (r : Fin 14) (d : Fin 64) :
    b301 j s (ix3 h r d) = (placesOf s h).rV' (i.val + 1) (tokRow s.main_v46_0 (tk i) h)
      (tokRow s.main_v46_1 (tk i) h) (tokRow s.main_v46_2 (tk i) h) (tokRow s.main_v46_1 (tp i) h) r d := by
  unfold b301 b300 b299 b298 b297 b296 b295 b294 b293 b292 b291 b290 b289 b288 b287 b286 b269 b220 b219
  pointwise
  simp only [into_at j s i hs, n_at j s i hs, word_room, sel_ifp, ev_at j s i hs]
  rfl

theorem rc_at (h : Fin 8) (r : Fin 14) :
    b309 j s (ix2 h r) = (placesOf s h).rc' (i.val + 1) (tokRow s.main_v46_0 (tk i) h)
      (tokRow s.main_v46_1 (tk i) h) (tokRow s.main_v46_1 (tp i) h) r := by
  unfold b309 b308 b307 b306 b305 b304 b303 b302 b220 b219
  pointwise
  simp only [into_at j s i hs, n_at j s i hs, word_room, sel_ifp]
  rfl

/-! ## The attention -/

theorem fC_at (h : Fin 8) (c : Fin 29) :
    b352 j s (ix2 h (pc c)) = (placesOf s h).fC (i.val + 1) (tokRow s.main_v46_0 (tk i) h)
      (tokRow s.main_v46_1 (tk i) h) (tokRow s.main_v46_1 (tp i) h) c := by
  unfold b352 b351 b350 b349 b348 b347 b346 b345 b344 b343 b342 b341 b340 b339 b338 b337 b336 b335 b334 b329 b328 b327 b318 b315 b314 b311
  pointwise
  have hc : (pc c).val < 29 := c.isLt
  have e1 : ∀ hc d, b164 j s (ix3 h (⟨(pc c).val, hc⟩ : Fin 29) d) = _ := fun _ d => aK_at j s i hs h c d
  have e2 : ∀ hc, b213 j s (ix2 h (⟨(pc c).val, hc⟩ : Fin 29)) = _ := fun _ => nS_at j s i hs h c
  simp only [dif_pos hc, if_pos hc, q_at j s i hs, lo_word, sel_bool, e1, e2]
  rfl

omit hs in
theorem nres_word' : ∀ i : Fin 63,
    IntOp.minsi 14#32 (IntOp.maxsi 0#32 (IntOp.subi (IntOp.addi (BitVec.ofNat 32 (i.val + 1)) 1#32) 28#32))
      = BitVec.ofNat 32 (nr (i.val + 1 + 1)) := by
  decide +kernel

theorem fR_at (h : Fin 8) (r : Fin 14) :
    b352 j s (ix2 h (pr r)) = (placesOf s h).fR (i.val + 1) (tokRow s.main_v46_0 (tk i) h)
      (tokRow s.main_v46_1 (tk i) h) (tokRow s.main_v46_1 (tp i) h) r := by
  unfold b352 b351 b350 b349 b348 b347 b346 b345 b344 b343 b342 b341 b340 b339 b338 b337 b336 b335 b334 b333 b332 b331 b330 b326 b325 b324 b323 b322 b321 b320 b319 b318 b311 K_main_v24 K_main_v23
  rw [hs]
  pointwise
  have hc : ¬(pr r).val < 29 := by simp [pr]
  simp only [dif_neg hc, if_neg hc, pr_sub, dif_pos r.isLt, if_pos r.isLt, q_at j s i hs, nres_word', sel_nres]
  have e1 : ∀ hc d, b285 j s (ix3 h (⟨r.val, hc⟩ : Fin 14) d) = _ := fun _ d => rK_at j s i hs h r d
  have e2 : ∀ hc, b309 j s (ix2 h (⟨r.val, hc⟩ : Fin 14)) = _ := fun _ => rc_at j s i hs h r
  simp only [e1, e2]
  rfl

theorem fP_at' (h : Fin 8) (x : Fin 44) (hx : x.val = 43) :
    b352 j s (ix2 h x) = Places.fP (tokRow s.main_v46_0 (tk i) h) (tokRow s.main_v46_1 (tk i) h) := by
  unfold b352 b351 b350 b349 b348 b347 b346 b345 b344 b343 b342 b341 b340 b339 b338 b337 b336 b335 b334 b318 b317 b316 b311 b310 b107 b106
  pointwise
  have hc : ¬x.val < 29 := by omega
  have hr : ¬x.val - 29 < 14 := by omega
  simp only [dif_neg hc, dif_neg hr, if_neg hc, if_neg hr, q_at j s i hs, k_at j s i hs, sel_one]
  rfl

theorem fP_at (h : Fin 8) :
    b352 j s (ix2 h pl) = Places.fP (tokRow s.main_v46_0 (tk i) h) (tokRow s.main_v46_1 (tk i) h) :=
  fP_at' j s i hs h pl rfl

theorem w_at (h : Fin 8) (x : Fin 44) :
    b357 j s (ix2 h x) = Ideal.div (b352 j s (ix2 h x)) ((placesOf s h).fden (i.val + 1)
      (tokRow s.main_v46_0 (tk i) h) (tokRow s.main_v46_1 (tk i) h) (tokRow s.main_v46_1 (tp i) h)) := by
  unfold Places.fden
  simp only [← fC_at j s i hs, ← fR_at j s i hs, ← fP_at j s i hs]
  rw [← sum44 fun x => b352 j s (ix2 h x)]
  unfold b357 b356 b355 b354 b353
  pointwise

theorem valC_at (h : Fin 8) (c : Fin 29) (d : Fin 64) :
    b313 j s (ix3 h (pc c) d) = (placesOf s h).aV (tokRow s.main_v46_2 (tk i) h) c d := by
  unfold b313
  pointwise
  have hc : (pc c).val < 29 := c.isLt
  rw [dif_pos hc]
  exact aV_at j s i hs h c d

theorem valR_at (h : Fin 8) (r : Fin 14) (d : Fin 64) :
    b313 j s (ix3 h (pr r) d) = (placesOf s h).rV' (i.val + 1) (tokRow s.main_v46_0 (tk i) h)
      (tokRow s.main_v46_1 (tk i) h) (tokRow s.main_v46_2 (tk i) h) (tokRow s.main_v46_1 (tp i) h) r d := by
  unfold b313
  pointwise
  have hc : ¬(pr r).val < 29 := by simp [pr]
  simp only [dif_neg hc, pr_sub, dif_pos r.isLt]
  exact rV_at j s i hs h r d

theorem valP_at' (h : Fin 8) (x : Fin 44) (hx : x.val = 43) (d : Fin 64) :
    b313 j s (ix3 h x d) = tokRow s.main_v46_2 (tk i) h d := by
  unfold b313 b312
  pointwise
  have hc : ¬x.val < 29 := by omega
  have hr : ¬x.val - 29 < 14 := by omega
  simp only [dif_neg hc, dif_neg hr, v_at j s i hs]
  rfl

theorem row_at (h : Fin 8) (d : Fin 64) :
    b362 j s (ix2 h d) = (placesOf s h).out (i.val + 1) (tokRow s.main_v46_0 (tk i) h)
      (tokRow s.main_v46_1 (tk i) h) (tokRow s.main_v46_2 (tk i) h) (tokRow s.main_v46_1 (tp i) h) d := by
  unfold b362 b361 b360 b359 b358
  pointwise
  rw [sum44]
  simp only [w_at j s i hs, fC_at j s i hs, fR_at j s i hs, fP_at j s i hs, valC_at j s i hs, valR_at j s i hs,
    valP_at' j s i hs h pl rfl]
  rfl

/-! ## The state after the trip -/

theorem places_next (h : Fin 8) :
    placesOf (step j s) h = (placesOf s h).next (i.val + 1) (tokRow s.main_v46_0 (tk i) h)
      (tokRow s.main_v46_1 (tk i) h) (tokRow s.main_v46_2 (tk i) h) (tokRow s.main_v46_1 (tp i) h) := by
  refine Places.mk.injEq .. |>.mpr ⟨?_, ?_, ?_, ?_, ?_, ?_, ?_⟩
  · exact funext fun c => funext fun d => aK_at j s i hs h c d
  · exact funext fun c => funext fun d => aV_at j s i hs h c d
  · exact funext fun c => nS_at j s i hs h c
  · exact free_at j s i hs h
  · exact funext fun r => funext fun d => rK_at j s i hs h r d
  · exact funext fun r => funext fun d => rV_at j s i hs h r d
  · exact funext fun r => rc_at j s i hs h r

theorem tok_next : (step j s).main_v46_7 = fun _ => BitVec.ofNat 32 (i.val + 1 + 1) := by
  rw [step_main_v46_7]
  unfold b1 b0
  rw [hs]
  funext x
  exact word_next i

theorem out_next (n : Fin 64) (h : Fin 8) (d : Fin 64) :
    (step j s).main_v46_15 (ix3 n h d)
      = if n = tk i then (placesOf s h).out (i.val + 1) (tokRow s.main_v46_0 (tk i) h)
          (tokRow s.main_v46_1 (tk i) h) (tokRow s.main_v46_2 (tk i) h) (tokRow s.main_v46_1 (tp i) h) d
        else s.main_v46_15 (ix3 n h d) := by
  rw [step_main_v46_15]
  unfold b368 b367 b366 b365 b364 b363
  rw [hs]
  unfold K_main_v26 K_main_v25
  pointwise
  simp only [row_at j s i hs, sel_eq]
  refine if_congr ?_ rfl rfl
  have hn : n.val < 64 := n.isLt
  have hi : i.val < 63 := i.isLt
  show BitVec.ofNat 32 n.val = BitVec.ofNat 32 (i.val + 1) ↔ n = tk i
  constructor
  · intro e
    have e2 := congrArg BitVec.toNat e
    simp only [BitVec.toNat_ofNat] at e2
    exact Fin.ext (by simp only [tk]; omega)
  · rintro rfl
    rfl

end

end Cert.Attn.Ref

end
-- ==== Proof.RefHist.lean ====
/-
  The reference's loop from its first trip to its last: after each trip the state holds, head by
  head, the places after that token and the attention rows so far.
-/
module

public import proofs.«01_k».proof.Proof.RefAt
public import proofs.«01_k».proof.Proof.History

@[expose] public section

set_option maxRecDepth 16384

noncomputable section

namespace Cert.Attn.Ref

open Idealize.ShloMosaic Idealize.ShloMosaic.TcCoe Idealize.ShloMosaic.Tactic
open Cert.ReferenceIdeal Cert.ReferenceIdeal.Step

/-- The rows of head `h` in an array of the state. -/
def toks (x : FVec Ideal S64x8x64 .f32) (h : Fin 8) : ℕ → Row := tokens (fun t h d => x (ix3 t h d)) h

theorem toks_at (x : FVec Ideal S64x8x64 .f32) (h : Fin 8) (t : Fin 64) : toks x h t.val = tokRow x t h := by
  unfold toks tokens
  rw [dif_pos t.isLt]
  rfl

/-- What the state is after `n` trips. -/
structure After (q k v : FVec Ideal S64x8x64 .f32) (n : ℕ) (s : State Ideal) : Prop where
  tok : s.main_v46_7 = fun _ => BitVec.ofNat 32 (n + 1)
  eq_q : s.main_v46_0 = q
  eq_k : s.main_v46_1 = k
  eq_v : s.main_v46_2 = v
  places : ∀ h, placesOf s h = Places.run (toks q h) (toks k h) (toks v h) n
  rows : ∀ (t : Fin 64) h d, s.main_v46_15 (ix3 t h d)
    = if t.val ≤ n then Places.row (toks q h) (toks k h) (toks v h) t.val d else 0

theorem after_step (q k v : FVec Ideal S64x8x64 .f32) (n : ℕ) (hn : n < 63) (j : ℕ) (s : State Ideal)
    (H : After q k v n s) : After q k v (n + 1) (step j s) := by
  have hs : s.main_v46_7 = fun _ => BitVec.ofNat 32 ((⟨n, hn⟩ : Fin 63).val + 1) := H.tok
  have eq : ∀ h, tokRow q (tk ⟨n, hn⟩) h = toks q h (n + 1) := fun h => (toks_at q h (tk ⟨n, hn⟩)).symm
  have ek : ∀ h, tokRow k (tk ⟨n, hn⟩) h = toks k h (n + 1) := fun h => (toks_at k h (tk ⟨n, hn⟩)).symm
  have ev : ∀ h, tokRow v (tk ⟨n, hn⟩) h = toks v h (n + 1) := fun h => (toks_at v h (tk ⟨n, hn⟩)).symm
  have ep : ∀ h, tokRow k (tp ⟨n, hn⟩) h = toks k h n := fun h => (toks_at k h (tp ⟨n, hn⟩)).symm
  refine ⟨tok_next j s ⟨n, hn⟩ hs, ?_, ?_, ?_, fun h => ?_, fun t h d => ?_⟩
  · unfold step; exact H.eq_q
  · unfold step; exact H.eq_k
  · unfold step; exact H.eq_v
  · rw [places_next j s ⟨n, hn⟩ hs h, H.places h, H.eq_q, H.eq_k, H.eq_v, eq, ek, ev, ep]
    rfl
  · rw [out_next j s ⟨n, hn⟩ hs t h d, H.places h, H.eq_q, H.eq_k, H.eq_v, eq, ek, ev, ep, H.rows t h d]
    by_cases e : t = tk ⟨n, hn⟩
    · subst e
      rw [if_pos rfl, if_pos (Nat.le_refl (n + 1))]
      rfl
    · rw [if_neg e]
      have e' : t.val ≠ n + 1 := fun e2 => e (Fin.ext e2)
      by_cases e3 : t.val ≤ n
      · rw [if_pos e3, if_pos (by omega)]
      · rw [if_neg e3, if_neg (by omega)]

theorem sel_zero29 : ∀ c : Fin 29, IntOp.cmpi CmpIPredicate.eq (BitVec.ofNat 32 c.val) 0#32 = if c.val = 0 then 1#1 else 0#1 := by
  decide +kernel

section
variable (a0 : FVec Ideal S1x64x512 .f32) (a1 : FVec Ideal S512x512 .f32) (a2 : FVec Ideal S512 .f32)
  (a3 : FVec Ideal S512x512 .f32) (a4 : FVec Ideal S512 .f32) (a5 : FVec Ideal S512x512 .f32) (a6 : FVec Ideal S512 .f32)

/-- The query, key and value rows the loop starts from. -/
abbrev rowsQ : FVec Ideal S64x8x64 .f32 := A_main_v6 (F := Ideal) a0 a1 a2 a3 a4 a5 a6
abbrev rowsK : FVec Ideal S64x8x64 .f32 := A_main_v13 (F := Ideal) a0 a1 a2 a3 a4 a5 a6
abbrev rowsV : FVec Ideal S64x8x64 .f32 := A_main_v20 (F := Ideal) a0 a1 a2 a3 a4 a5 a6

theorem first_K (h : Fin 8) (c : Fin 29) (d : Fin 64) :
    A_main_v34 (F := Ideal) a0 a1 a2 a3 a4 a5 a6 (ix3 h c d)
      = if c.val = 0 then rowsK a0 a1 a2 a3 a4 a5 a6 (ix3 (0 : Fin 64) h d) else 0 := by
  unfold rowsK A_main_v34 A_main_call0_v2 A_main_v33 A_main_v32 A_main_v31 K_main_call0_v1 K_main_call0_v3 K_main_call0_v0 K_main_v30 K_main_v29 K_main_v28 K_main_v27 K_main_v22 K_main_v21 K_main_c K_main_cst
  generalize A_main_v13 (F := Ideal) a0 a1 a2 a3 a4 a5 a6 = x
  pointwise
  rw [sel_zero29, sel_ifp]
  exact if_congr Iff.rfl rfl Ideal.ofBits_zero_f32

theorem first_V (h : Fin 8) (c : Fin 29) (d : Fin 64) :
    A_main_v39 (F := Ideal) a0 a1 a2 a3 a4 a5 a6 (ix3 h c d)
      = if c.val = 0 then rowsV a0 a1 a2 a3 a4 a5 a6 (ix3 (0 : Fin 64) h d) else 0 := by
  unfold rowsV A_main_v39 A_main_call1_v2 A_main_v38 A_main_v37 A_main_v36 K_main_call1_v1 K_main_call1_v3 K_main_call1_v0 K_main_v35 K_main_v29 K_main_v28 K_main_v27 K_main_v22 K_main_v21 K_main_c K_main_cst_0
  generalize A_main_v20 (F := Ideal) a0 a1 a2 a3 a4 a5 a6 = x
  pointwise
  rw [sel_zero29, sel_ifp]
  exact if_congr Iff.rfl rfl Ideal.ofBits_zero_f32

omit a0 a1 a2 a3 a4 a5 a6 in
theorem first_s (h : Fin 8) (c : Fin 29) : K_main_v40 (F := Ideal) (ix2 h c) = if c.val = 0 then 1 else ⊥ := by
  unfold K_main_v40 K_main_call2_v0 K_main_call2_v1 K_main_cst_1 K_main_cst_2 K_main_v29 K_main_v28 K_main_v27 K_main_v22 K_main_v21 K_main_c
  pointwise
  rw [sel_zero29, sel_ifp, lo_word]

omit a0 a1 a2 a3 a4 a5 a6 in
theorem first_rK (h : Fin 8) (r : Fin 14) (d : Fin 64) : K_main_v42 (F := Ideal) (ix3 h r d) = 0 := by
  unfold K_main_v42 K_main_cst_4
  pointwise

omit a0 a1 a2 a3 a4 a5 a6 in
theorem first_rV (h : Fin 8) (r : Fin 14) (d : Fin 64) : K_main_v43 (F := Ideal) (ix3 h r d) = 0 := by
  unfold K_main_v43 K_main_cst_5
  pointwise

omit a0 a1 a2 a3 a4 a5 a6 in
theorem first_rc (h : Fin 8) (r : Fin 14) : K_main_v44 (F := Ideal) (ix2 h r) = 1 := by
  unfold K_main_v44 K_main_cst_6
  pointwise

omit a0 a1 a2 a3 a4 a5 a6 in
theorem first_out (t : Fin 64) (h : Fin 8) (d : Fin 64) : K_main_v45 (F := Ideal) (ix3 t h d) = 0 := by
  unfold K_main_v45 K_main_cst_7
  pointwise

theorem toks_first (x : FVec Ideal S64x8x64 .f32) (h : Fin 8) (d : Fin 64) : toks x h 0 d = x (ix3 (0 : Fin 64) h d) :=
  congrFun (toks_at x h (0 : Fin 64)) d

theorem after_init :
    After (rowsQ a0 a1 a2 a3 a4 a5 a6) (rowsK a0 a1 a2 a3 a4 a5 a6) (rowsV a0 a1 a2 a3 a4 a5 a6) 0
      (Step.init a0 a1 a2 a3 a4 a5 a6) := by
  unfold Step.init
  refine ⟨rfl, rfl, rfl, rfl, fun h => ?_, fun t h d => ?_⟩
  · unfold placesOf Places.run Places.start
    simp only [toks_first]
    refine Places.mk.injEq .. |>.mpr ⟨?_, ?_, ?_, ?_, ?_, ?_, ?_⟩
    · exact funext fun c => funext fun d => first_K a0 a1 a2 a3 a4 a5 a6 h c d
    · exact funext fun c => funext fun d => first_V a0 a1 a2 a3 a4 a5 a6 h c d
    · exact funext fun c => first_s h c
    · rfl
    · exact funext fun r => funext fun d => first_rK h r d
    · exact funext fun r => funext fun d => first_rV h r d
    · exact funext fun r => first_rc h r
  · refine (first_out t h d).trans ?_
    by_cases e : t.val ≤ 0
    · rw [if_pos e, show t.val = 0 by omega]
      rfl
    · rw [if_neg e]

/-- The state after `n` trips. -/
def it : ℕ → State Ideal
  | 0 => Step.init a0 a1 a2 a3 a4 a5 a6
  | n + 1 => step n (it n)

theorem after_it (n : ℕ) (hn : n ≤ 63) :
    After (rowsQ a0 a1 a2 a3 a4 a5 a6) (rowsK a0 a1 a2 a3 a4 a5 a6) (rowsV a0 a1 a2 a3 a4 a5 a6) n
      (it a0 a1 a2 a3 a4 a5 a6 n) := by
  induction n with
  | zero => exact after_init a0 a1 a2 a3 a4 a5 a6
  | succ n ih => exact after_step _ _ _ n (by omega) n _ (ih (by omega))

theorem last_rows (t : Fin 64) (h : Fin 8) (d : Fin 64) :
    (it a0 a1 a2 a3 a4 a5 a6 63).main_v46_15 (ix3 t h d)
      = Places.row (toks (rowsQ a0 a1 a2 a3 a4 a5 a6) h) (toks (rowsK a0 a1 a2 a3 a4 a5 a6) h)
          (toks (rowsV a0 a1 a2 a3 a4 a5 a6) h) t.val d := by
  rw [(after_it a0 a1 a2 a3 a4 a5 a6 63 (Nat.le_refl _)).rows t h d, if_pos (by omega)]

end

end Cert.Attn.Ref

end
-- ==== Proof.Project.lean ====
/-
  The linear layers at a position: the kernel's and the reference's query, key and value rows are
  one sum, and so is the output made of the attention rows.
-/
module

public import proofs.«01_k».proof.Proof.KernelHist
public import proofs.«01_k».proof.Proof.RefHist

@[expose] public section

set_option maxRecDepth 16384

noncomputable section

namespace Cert.Attn

open Idealize.ShloMosaic Idealize.ShloMosaic.TcCoe Idealize.ShloMosaic.Tactic
open Cert.KernelIdeal Cert.KernelIdeal.Gen

/-- Lane `d` of head `h` of token `t` after a linear layer. -/
def linear (x : FVec Ideal S1x64x512 .f32) (w : FVec Ideal S512x512 .f32) (b : FVec Ideal S512 .f32)
    (t : Fin 64) (h : Fin 8) (d : Fin 64) : EReal :=
  (∑ j : Fin 512, x (ix3 (0 : Fin 1) t j) * w (ix2 (⟨h.val * 64 + d.val, by omega⟩ : Fin 512) j))
    + b (ix1 (⟨h.val * 64 + d.val, by omega⟩ : Fin 512))

/-- A bias array as one row. -/
abbrev asRow (b : FVec Ideal S512 .f32) : FVec Ideal S1x512 .f32 := shapeCast S1x512 b shapeCasts_S512_S1x512

section
variable (x : FVec Ideal S1x64x512 .f32) (w : FVec Ideal S512x512 .f32) (b : FVec Ideal S512 .f32)

theorem kq_at (t : Fin 64) (h : Fin 8) (d : Fin 64) :
    k0_pay49 (F := Ideal) x w (asRow b) (ix3 t h d) = linear x w b t h d := by
  unfold k0_pay49 k0_pay48 asRow linear
  pointwise

theorem kk_at (t : Fin 64) (h : Fin 8) (d : Fin 64) :
    k0_pay50 (F := Ideal) x w (asRow b) (ix3 t h d) = linear x w b t h d := by
  unfold k0_pay50 k0_pay48 asRow linear
  pointwise

theorem kv_at (t : Fin 64) (h : Fin 8) (d : Fin 64) :
    k0_pay52 (k0_pay51 (F := Ideal) x w (asRow b)) (ix3 t h d) = linear x w b t h d := by
  unfold k0_pay52 k0_pay51 k0_pay48 asRow linear
  pointwise

end

section
variable (a0 : FVec Ideal S1x64x512 .f32) (a1 : FVec Ideal S512x512 .f32) (a2 : FVec Ideal S512 .f32)
  (a3 : FVec Ideal S512x512 .f32) (a4 : FVec Ideal S512 .f32) (a5 : FVec Ideal S512x512 .f32) (a6 : FVec Ideal S512 .f32)

theorem rq_at (t : Fin 64) (h : Fin 8) (d : Fin 64) :
    Ref.rowsQ a0 a1 a2 a3 a4 a5 a6 (ix3 t h d) = linear a0 a1 a2 t h d := by
  unfold Ref.rowsQ ReferenceIdeal.Step.A_main_v6 ReferenceIdeal.Step.A_main_v5 ReferenceIdeal.Step.A_main_v4 ReferenceIdeal.Step.A_main_v3 ReferenceIdeal.Step.A_main_v2 ReferenceIdeal.Step.A_main_v1 ReferenceIdeal.Step.A_main_v0 linear
  pointwise

theorem rk_at (t : Fin 64) (h : Fin 8) (d : Fin 64) :
    Ref.rowsK a0 a1 a2 a3 a4 a5 a6 (ix3 t h d) = linear a0 a3 a4 t h d := by
  unfold Ref.rowsK ReferenceIdeal.Step.A_main_v13 ReferenceIdeal.Step.A_main_v12 ReferenceIdeal.Step.A_main_v11 ReferenceIdeal.Step.A_main_v10 ReferenceIdeal.Step.A_main_v9 ReferenceIdeal.Step.A_main_v8 ReferenceIdeal.Step.A_main_v7 linear
  pointwise

theorem rv_at (t : Fin 64) (h : Fin 8) (d : Fin 64) :
    Ref.rowsV a0 a1 a2 a3 a4 a5 a6 (ix3 t h d) = linear a0 a5 a6 t h d := by
  unfold Ref.rowsV ReferenceIdeal.Step.A_main_v20 ReferenceIdeal.Step.A_main_v19 ReferenceIdeal.Step.A_main_v18 ReferenceIdeal.Step.A_main_v17 ReferenceIdeal.Step.A_main_v16 ReferenceIdeal.Step.A_main_v15 ReferenceIdeal.Step.A_main_v14 linear
  pointwise

/-- Two 64×8×64 arrays agree when they agree at every token, head and lane. -/
theorem ext3 {f g : FVec Ideal S64x8x64 .f32} (e : ∀ (t : Fin 64) (h : Fin 8) (d : Fin 64), f (ix3 t h d) = g (ix3 t h d)) :
    f = g := by
  funext i
  rw [eq_ix3 i]
  exact e _ _ _

theorem q_rows : k0_pay49 (F := Ideal) a0 a1 (asRow a2) = Ref.rowsQ a0 a1 a2 a3 a4 a5 a6 :=
  ext3 fun t h d => (kq_at a0 a1 a2 t h d).trans (rq_at a0 a1 a2 a3 a4 a5 a6 t h d).symm

theorem k_rows : k0_pay50 (F := Ideal) a0 a3 (asRow a4) = Ref.rowsK a0 a1 a2 a3 a4 a5 a6 :=
  ext3 fun t h d => (kk_at a0 a3 a4 t h d).trans (rk_at a0 a1 a2 a3 a4 a5 a6 t h d).symm

theorem v_rows : k0_pay52 (k0_pay51 (F := Ideal) a0 a5 (asRow a6)) = Ref.rowsV a0 a1 a2 a3 a4 a5 a6 :=
  ext3 fun t h d => (kv_at a0 a5 a6 t h d).trans (rv_at a0 a1 a2 a3 a4 a5 a6 t h d).symm

end

/-- The output layer: the same array from the same attention rows. -/
theorem out_rows (s : ReferenceIdeal.Step.State Ideal) (w : FVec Ideal S512x512 .f32) (b : FVec Ideal S512 .f32) :
    k0_pay4 (F := Ideal) s.main_v46_15 w (asRow b) = ReferenceIdeal.Step.R_main_v53 (F := Ideal) s w b := by
  have e : ∀ (z : Fin 1) (t : Fin 64) (j : Fin 512),
      k0_pay4 (F := Ideal) s.main_v46_15 w (asRow b) (ix3 z t j)
        = ReferenceIdeal.Step.R_main_v53 (F := Ideal) s w b (ix3 z t j) := fun z t j => by
    obtain rfl : z = (0 : Fin 1) := Subsingleton.elim _ _
    unfold k0_pay4 ReferenceIdeal.Step.R_main_v53 asRow
    pointwise
  funext i
  rw [eq_ix3 i]
  exact e _ _ _

end Cert.Attn

end
-- ==== Proof.Numbers.lean ====
/-
  The numbers the two forms of the cache meet at: the values of the constants, quotients and
  exponentials that are not negative, and the two scalings of a score.
-/
module

public import proofs.«01_k».proof.Proof.Places

@[expose] public section

noncomputable section

namespace Cert.Attn

open Idealize.ShloMosaic

theorem eighth_eq : eighth = (((1 : ℝ) / 8 : ℝ) : EReal) := by
  simp [eighth, Ideal.ofBits, Ideal.ieee, -EReal.coe_mul]; norm_num

theorem eight_eq : Ideal.ofBits .f32 0x41000000#32 = ((8 : ℝ) : EReal) := by
  simp [Ideal.ofBits, Ideal.ieee, -EReal.coe_mul]; norm_num

theorem cut_neg : cut < 0 := by
  simp [cut, Ideal.ofBits, Ideal.ieee, -EReal.coe_mul, -EReal.coe_neg]

theorem cut_bot : ⊥ < cut := by
  simp [cut, Ideal.ofBits, Ideal.ieee, -EReal.coe_mul, -EReal.coe_neg]

theorem decay_pos : 0 < decay := by
  simp [decay, Ideal.ofBits, Ideal.ieee, -EReal.coe_mul]

theorem half_eq : half = (((1 : ℝ) / 2 : ℝ) : EReal) := by
  simp [half, Ideal.ofBits, Ideal.ieee, -EReal.coe_mul]; norm_num

theorem half_pos : 0 < half := by
  rw [half_eq]; exact_mod_cast (by norm_num : (0 : ℝ) < 1 / 2)

theorem half_lt_one : half < 1 := by
  rw [half_eq]; exact_mod_cast (by norm_num : (1 : ℝ) / 2 < 1)

theorem half_lt_ind (p : Prop) [Decidable p] : half < ind p ↔ p := by
  unfold ind
  by_cases h : p
  · simp [h, half_lt_one]
  · simp only [h, if_false, iff_false]; exact not_lt_of_gt half_pos

theorem log_one : Ideal.log 1 = 0 := by
  rw [← EReal.coe_one, Ideal.log_coe, if_neg (by norm_num), Real.log_one, EReal.coe_zero]

theorem exp_nonneg (x : EReal) : 0 ≤ Ideal.exp x := by
  induction x with
  | bot => exact le_of_eq rfl
  | top => exact le_top
  | coe r => exact EReal.coe_nonneg.mpr (Real.exp_pos r).le

theorem exp_pos (r : ℝ) : 0 < Ideal.exp (r : EReal) := EReal.coe_pos.mpr (Real.exp_pos r)

theorem inv_nonneg' {y : EReal} (hy : 0 ≤ y) : 0 ≤ y⁻¹ := EReal.inv_nonneg_of_nonneg hy

theorem div_eq {y : EReal} (hy : 0 < y) (x : EReal) : Ideal.div x y = x * y⁻¹ := by
  unfold Ideal.div
  rw [if_neg hy.ne']

theorem div_nonneg {x y : EReal} (hx : 0 ≤ x) (hy : 0 < y) : 0 ≤ Ideal.div x y := by
  rw [div_eq hy]
  exact mul_nonneg hx (inv_nonneg' hy.le)

theorem div_zero_left {y : EReal} (hy : 0 < y) : Ideal.div 0 y = 0 := by
  rw [div_eq hy, zero_mul]

theorem inv_ne_top {y : EReal} (hy : 0 < y) : y⁻¹ ≠ ⊤ := by
  induction y with
  | bot => exact absurd hy (by simp)
  | top => simp
  | coe r => rw [← EReal.coe_inv]; exact EReal.coe_ne_top _

/-- The two scalings of a score are one. -/
theorem sc_eq (q a : Row) : Places.sc q a = Slots.sc q a := by
  unfold Places.sc Slots.sc
  rw [eight_eq, Ideal.div_coe (by norm_num), eighth_eq]

/-- A row of reals. -/
def Reals (x : Row) : Prop := ∃ r : Fin 64 → ℝ, ∀ d, x d = (r d : EReal)

theorem dot_real {a b : Row} (ha : Reals a) (hb : Reals b) : ∃ r : ℝ, dot a b = (r : EReal) := by
  obtain ⟨f, hf⟩ := ha
  obtain ⟨g, hg⟩ := hb
  refine ⟨∑ d, f d * g d, ?_⟩
  unfold dot
  simp only [hf, hg, ← EReal.coe_mul]
  exact (map_sum (⟨⟨fun r : ℝ => (r : EReal), rfl⟩, fun x y => EReal.coe_add x y⟩ : ℝ →+ EReal) _ _).symm

theorem sc_pos {q a : Row} (hq : Reals q) (ha : Reals a) : 0 < Ideal.exp (Slots.sc q a) := by
  obtain ⟨r, hr⟩ := dot_real ha hq
  unfold Slots.sc
  rw [hr, eighth_eq, ← EReal.coe_mul]
  exact exp_pos _

/-- A quotient of a sum of weighted values is the sum of the weighted quotients. -/
theorem div_sum {n : ℕ} {y : EReal} (hy : 0 < y) (f g : Fin n → EReal) :
    ∑ c, Ideal.div (f c) y * g c = (∑ c, f c * g c) * y⁻¹ := by
  have hz : ∀ s : Finset (Fin n), ∑ c ∈ s, Ideal.div (f c) y * g c = (∑ c ∈ s, f c * g c) * y⁻¹ := by
    intro s
    induction s using Finset.induction_on with
    | empty => simp
    | insert a s ha ih =>
      rw [Finset.sum_insert ha, Finset.sum_insert ha, ih, div_eq hy, mul_right_comm]
      exact (EReal.right_distrib_of_nonneg_of_ne_top (inv_nonneg' hy.le) (inv_ne_top hy) _ _).symm
  exact hz Finset.univ

end Cert.Attn

end
-- ==== Proof.Finite.lean ====
/-
  Finite inputs make every query and key a real number.
-/
module

public import proofs.«01_k».proof.Proof.Project
public import proofs.«01_k».proof.Proof.Numbers
public import proofs.«01_k».proof.Proof.Gen.Pre_finite_qk

@[expose] public section

set_option maxRecDepth 16384

noncomputable section

namespace Cert.Attn

open Idealize.ShloMosaic Idealize.ShloMosaic.TcCoe Idealize.ShloMosaic.Tactic
open Cert.KernelIdeal Cert.KernelIdeal.Gen

theorem top_word : Ideal.ofBits .f32 0x7F800000#32 = ⊤ := by
  simp [Ideal.ofBits, Ideal.ieee]

/-- Below infinity in size: a real number. -/
theorem real_of_bit {e : EReal}
    (h : BitVec.ofBool (decide (FloatOps.absf (F := Ideal) (φ := .f32) e < Ideal.ofBits .f32 0x7F800000#32)) = 1#1) :
    ∃ r : ℝ, e = (r : EReal) := by
  have h' : max e (-e) < ⊤ := by
    rw [top_word, Ideal.absf_def] at h
    by_contra hn
    rw [decide_eq_false hn] at h
    exact absurd h (by decide)
  induction e with
  | bot => exact absurd h' (by simp)
  | top => exact absurd h' (by simp)
  | coe r => exact ⟨r, rfl⟩

theorem real3 (a : FVec Ideal S1x64x512 .f32) (hb : (⟨0, ![]⟩ : Shape).BroadcastsInDim S1x64x512 ![])
    (h : cmpf .olt (Host.absf a) (broadcastInDim S1x64x512 ![] hb (constant ⟨0, ![]⟩ .f32 0x7F800000#32)) = fun _ => 1#1)
    (t : Fin 64) (j : Fin 512) : ∃ r : ℝ, a (ix3 (0 : Fin 1) t j) = (r : EReal) := by
  have e := congrFun h (ix3 (0 : Fin 1) t j)
  revert e
  pointwise
  exact real_of_bit

theorem real2 (a : FVec Ideal S512x512 .f32) (hb : (⟨0, ![]⟩ : Shape).BroadcastsInDim S512x512 ![])
    (h : cmpf .olt (Host.absf a) (broadcastInDim S512x512 ![] hb (constant ⟨0, ![]⟩ .f32 0x7F800000#32)) = fun _ => 1#1)
    (i j : Fin 512) : ∃ r : ℝ, a (ix2 i j) = (r : EReal) := by
  have e := congrFun h (ix2 i j)
  revert e
  pointwise
  exact real_of_bit

theorem real1 (a : FVec Ideal S512 .f32) (hb : (⟨0, ![]⟩ : Shape).BroadcastsInDim S512 ![])
    (h : cmpf .olt (Host.absf a) (broadcastInDim S512 ![] hb (constant ⟨0, ![]⟩ .f32 0x7F800000#32)) = fun _ => 1#1)
    (j : Fin 512) : ∃ r : ℝ, a (ix1 j) = (r : EReal) := by
  have e := congrFun h (ix1 j)
  revert e
  pointwise
  exact real_of_bit

theorem linear_real (x : FVec Ideal S1x64x512 .f32) (w : FVec Ideal S512x512 .f32) (b : FVec Ideal S512 .f32)
    (hx : ∀ t j, ∃ r : ℝ, x (ix3 (0 : Fin 1) t j) = (r : EReal)) (hw : ∀ i j, ∃ r : ℝ, w (ix2 i j) = (r : EReal))
    (hb : ∀ j, ∃ r : ℝ, b (ix1 j) = (r : EReal)) (t : Fin 64) (h : Fin 8) (d : Fin 64) :
    ∃ r : ℝ, linear x w b t h d = (r : EReal) := by
  choose fx ex using hx
  choose fw ew using hw
  choose fb eb using hb
  refine ⟨(∑ j, fx t j * fw ⟨h.val * 64 + d.val, by omega⟩ j) + fb ⟨h.val * 64 + d.val, by omega⟩, ?_⟩
  unfold linear
  simp only [ex, ew, eb, ← EReal.coe_mul]
  rw [EReal.coe_add]
  exact congrArg (· + _) (map_sum (⟨⟨fun r : ℝ => (r : EReal), rfl⟩, fun x y => EReal.coe_add x y⟩ : ℝ →+ EReal) _ _).symm

/-- Rows whose entries are reals, token by token. -/
theorem tokens_real (x : Fin 64 → Fin 8 → Row) (h : Fin 8) (hx : ∀ t d, ∃ r : ℝ, x t h d = (r : EReal)) (n : ℕ) :
    Reals (tokens x h n) := by
  unfold tokens
  by_cases hn : n < 64
  · rw [dif_pos hn]
    choose f ef using hx ⟨n, hn⟩
    exact ⟨f, ef⟩
  · rw [dif_neg hn]
    exact ⟨fun _ => 0, fun _ => rfl⟩

end Cert.Attn

end
-- ==== Proof.Order.lean ====
/-
  Ranks: the slot of rank 28 among thirty-two slots with three at the bottom is the last of the
  lowest of the other twenty-nine; the first slot among sixteen with two at the bottom is the first
  of the highest of the other fourteen.
-/
module

public import proofs.«01_k».proof.Proof.Places

@[expose] public section

noncomputable section

namespace Cert.Attn

open Idealize.ShloMosaic
open Slots (before)

/-- A context place as a slot, and a residual place as a slot. -/
def up (c : Fin 29) : Fin 32 := ⟨c.val, by omega⟩
def ur (r : Fin 14) : Fin 16 := ⟨r.val, by omega⟩

theorem up_inj : Function.Injective up := fun a b h => Fin.ext (Fin.mk.inj_iff.mp h)
theorem ur_inj : Function.Injective ur := fun a b h => Fin.ext (Fin.mk.inj_iff.mp h)

/-- Every slot is a place or one of the last ones. -/
theorem slot_cases (c : Fin 32) : (∃ a : Fin 29, c = up a) ∨ 29 ≤ c.val := by
  by_cases h : c.val < 29
  · exact Or.inl ⟨⟨c.val, h⟩, rfl⟩
  · exact Or.inr (by omega)

theorem rslot_cases (r : Fin 16) : (∃ a : Fin 14, r = ur a) ∨ 14 ≤ r.val := by
  by_cases h : r.val < 14
  · exact Or.inl ⟨⟨r.val, h⟩, rfl⟩
  · exact Or.inr (by omega)

theorem sum_up (f : Fin 32 → EReal) (h : ∀ c : Fin 32, 29 ≤ c.val → f c = 0) : ∑ c, f c = ∑ a, f (up a) := by
  have e : ∑ i : Fin (29 + 3), f i = _ := Fin.sum_univ_add (fun i : Fin (29 + 3) => f i)
  refine e.trans ?_
  rw [Finset.sum_eq_zero (f := fun i : Fin 3 => f (Fin.natAdd 29 i)) fun i _ => h _ (Nat.le_add_right 29 i.val), add_zero]
  rfl

theorem sum_ur (f : Fin 16 → EReal) (h : ∀ c : Fin 16, 14 ≤ c.val → f c = 0) : ∑ c, f c = ∑ a, f (ur a) := by
  have e : ∑ i : Fin (14 + 2), f i = _ := Fin.sum_univ_add (fun i : Fin (14 + 2) => f i)
  refine e.trans ?_
  rw [Finset.sum_eq_zero (f := fun i : Fin 2 => f (Fin.natAdd 14 i)) fun i _ => h _ (Nat.le_add_right 14 i.val), add_zero]
  rfl

/-! ## The last of the lowest -/

/-- `l` is the last place of the lowest value. -/
def LastMin {n : ℕ} (g : Fin n → EReal) (l : Fin n) : Prop := (∀ c, g l ≤ g c) ∧ ∀ c, g c = g l → c ≤ l

/-- `l` is the first place of the highest value. -/
def FirstMax {n : ℕ} (g : Fin n → EReal) (l : Fin n) : Prop := (∀ c, g c ≤ g l) ∧ ∀ c, g c = g l → l ≤ c

theorem exists_lastMin (g : Fin 29 → EReal) : ∃ l, LastMin g l := by
  obtain ⟨m, -, hm⟩ := Finset.exists_min_image Finset.univ g ⟨0, Finset.mem_univ _⟩
  obtain ⟨l, hl, hmax⟩ := Finset.exists_max_image (Finset.univ.filter fun c => g c = g m) id
    ⟨m, Finset.mem_filter.mpr ⟨Finset.mem_univ _, rfl⟩⟩
  have e : g l = g m := (Finset.mem_filter.mp hl).2
  exact ⟨l, fun c => e ▸ hm c (Finset.mem_univ _), fun c hc =>
    hmax c (Finset.mem_filter.mpr ⟨Finset.mem_univ _, hc.trans e⟩)⟩

theorem exists_firstMax (g : Fin 14 → EReal) : ∃ l, FirstMax g l := by
  obtain ⟨m, -, hm⟩ := Finset.exists_max_image Finset.univ g ⟨0, Finset.mem_univ _⟩
  obtain ⟨l, hl, hmin⟩ := Finset.exists_min_image (Finset.univ.filter fun c => g c = g m) id
    ⟨m, Finset.mem_filter.mpr ⟨Finset.mem_univ _, rfl⟩⟩
  have e : g l = g m := (Finset.mem_filter.mp hl).2
  exact ⟨l, fun c => e ▸ hm c (Finset.mem_univ _), fun c hc =>
    hmin c (Finset.mem_filter.mpr ⟨Finset.mem_univ _, hc.trans e⟩)⟩

theorem fold_min (g : Fin 29 → EReal) (l : Fin 29) (hl : LastMin g l) : Finset.univ.fold min ⊤ g = g l := by
  refine le_antisymm ?_ ?_
  · exact (Finset.le_fold_min _).mp le_rfl |>.2 l (Finset.mem_univ _)
  · exact (Finset.le_fold_min _).mpr ⟨le_top, fun c _ => hl.1 c⟩

theorem fold_max (g : Fin 14 → EReal) (l : Fin 14) (hl : FirstMax g l) : Finset.univ.fold max ⊥ g = g l := by
  refine le_antisymm ?_ ?_
  · exact (Finset.fold_max_le _).mpr ⟨bot_le, fun c _ => hl.1 c⟩
  · exact (Finset.fold_max_le _).mp le_rfl |>.2 l (Finset.mem_univ _)

theorem rank_min (f : Fin 32 → EReal) (g : Fin 29 → EReal) (hf : ∀ a, f (up a) = g a)
    (hb : ∀ c : Fin 32, 29 ≤ c.val → f c = ⊥) (hg : ∀ a, g a ≠ ⊥) (l : Fin 29) (hl : LastMin g l) (c : Fin 32) :
    (before f c).card = 28 ↔ c = up l := by
  have mem : ∀ c j, j ∈ before f c ↔ (f c < f j ∨ (f j = f c ∧ j < c)) := fun c j => by simp [before]
  have all : (Finset.univ.map ⟨up, up_inj⟩ : Finset (Fin 32)).card = 29 := by simp
  rcases slot_cases c with ⟨a, rfl⟩ | hc
  · have sub : ∀ j ∈ before f (up a), ∃ b, j = up b := by
      intro j hj
      rcases slot_cases j with h | h
      · exact h
      · rw [mem, hb j h, hf] at hj
        rcases hj with h1 | ⟨h1, -⟩
        · exact absurd h1 not_lt_bot
        · exact absurd h1.symm (hg a)
    constructor
    · intro e
      by_contra hne
      have hal : a ≠ l := fun h => hne (congrArg up h)
      have hs : before f (up a) ⊆ ((Finset.univ.map ⟨up, up_inj⟩).erase (up a)).erase (up l) := by
        intro j hj
        obtain ⟨b, rfl⟩ := sub j hj
        rw [mem, hf, hf] at hj
        refine Finset.mem_erase.mpr ⟨fun h => ?_, Finset.mem_erase.mpr ⟨fun h => ?_, by simp⟩⟩
        · rw [up_inj h] at hj
          rcases hj with h1 | ⟨h1, h2⟩
          · exact absurd h1 (not_lt_of_ge (hl.1 a))
          · exact absurd h2 (not_lt_of_ge (hl.2 a h1.symm))
        · rw [up_inj h] at hj
          rcases hj with h1 | ⟨-, h2⟩
          · exact absurd h1 (lt_irrefl _)
          · exact absurd h2 (lt_irrefl _)
      have := Finset.card_le_card hs
      rw [Finset.card_erase_of_mem (Finset.mem_erase.mpr ⟨fun h => hal (up_inj h).symm, by simp⟩),
        Finset.card_erase_of_mem (by simp), all, e] at this
      omega
    · intro e
      rw [e]
      have hs : before f (up l) = (Finset.univ.map ⟨up, up_inj⟩).erase (up l) := by
        ext j
        rw [Finset.mem_erase]
        constructor
        · intro hj
          have hj' := hj
          rw [← e] at hj
          obtain ⟨b, rfl⟩ := sub j hj
          refine ⟨fun h => ?_, by simp⟩
          rw [mem, h] at hj'
          rcases hj' with h1 | ⟨-, h2⟩
          · exact absurd h1 (lt_irrefl _)
          · exact absurd h2 (lt_irrefl _)
        · rintro ⟨h1, h2⟩
          obtain ⟨b, -, rfl⟩ := Finset.mem_map.mp h2
          show up b ∈ _
          rw [mem, hf, hf]
          rcases lt_or_eq_of_le (hl.1 b) with h | h
          · exact Or.inl h
          · exact Or.inr ⟨h.symm, lt_of_le_of_ne (hl.2 b h.symm) h1⟩
      rw [hs, Finset.card_erase_of_mem (by simp), all]
  · constructor
    · intro e
      have hs : Finset.univ.map ⟨up, up_inj⟩ ⊆ before f c := by
        intro j hj
        obtain ⟨b, -, rfl⟩ := Finset.mem_map.mp hj
        show up b ∈ _
        rw [mem, hf, hb c hc]
        exact Or.inl (bot_lt_iff_ne_bot.mpr (hg b))
      have := Finset.card_le_card hs
      rw [all, e] at this
      omega
    · intro e
      have := congrArg Fin.val e
      have h2 : (up l).val = l.val := rfl
      omega

theorem rank_low (f : Fin 32 → EReal) (t : ℕ) (ht : t < 28) (hb : ∀ c : Fin 32, t < c.val → f c = ⊥) (c : Fin 32)
    (hc : (before f c).card = 28) : f c = ⊥ := by
  by_contra hne
  have mem : ∀ c j, j ∈ before f c ↔ (f c < f j ∨ (f j = f c ∧ j < c)) := fun c j => by simp [before]
  have hs : (before f c).map ⟨Fin.val, Fin.val_injective⟩ ⊆ Finset.range (t + 1) \ {c.val} := by
    intro j hj
    obtain ⟨b, hb2, rfl⟩ := Finset.mem_map.mp hj
    rw [mem] at hb2
    refine Finset.mem_sdiff.mpr ⟨Finset.mem_range.mpr ?_, fun h => ?_⟩
    · show b.val < t + 1
      by_contra h
      rw [hb b (by omega)] at hb2
      rcases hb2 with h1 | ⟨h1, -⟩
      · exact absurd h1 not_lt_bot
      · exact hne h1.symm
    · rw [Fin.ext (Finset.mem_singleton.mp h) (a := b) (b := c)] at hb2
      rcases hb2 with h1 | ⟨-, h2⟩
      · exact absurd h1 (lt_irrefl _)
      · exact absurd h2 (lt_irrefl _)
  have hct : c.val ∈ Finset.range (t + 1) := by
    by_contra h
    exact hne (hb c (by simp only [Finset.mem_range] at h; omega))
  have := Finset.card_le_card hs
  rw [Finset.card_map, hc, Finset.card_sdiff_of_subset (Finset.singleton_subset_iff.mpr hct)] at this
  simp at this
  omega

theorem rank_max (f : Fin 16 → EReal) (g : Fin 14 → EReal) (hf : ∀ a, f (ur a) = g a)
    (hb : ∀ c : Fin 16, 14 ≤ c.val → f c = ⊥) (l : Fin 14) (hl : FirstMax g l) (c : Fin 16) :
    (before f c).card = 0 ↔ c = ur l := by
  have mem : ∀ c j, j ∈ before f c ↔ (f c < f j ∨ (f j = f c ∧ j < c)) := fun c j => by simp [before]
  rw [Finset.card_eq_zero]
  constructor
  · intro e
    have no : ∀ j, j ∉ before f c := fun j => by rw [e]; exact Finset.notMem_empty j
    rcases rslot_cases c with ⟨a, rfl⟩ | hc
    · have h1 := no (ur l)
      rw [mem, hf, hf, not_or] at h1
      have ea : g a = g l := le_antisymm (hl.1 a) (not_lt.mp h1.1)
      have h2 : l ≤ a := hl.2 a ea
      have h3 : ¬ l < a := fun h => h1.2 ⟨ea.symm, h⟩
      exact congrArg ur (le_antisymm (not_lt.mp h3) h2)
    · exfalso
      have h1 := no (ur 0)
      rw [mem, hf, hb c hc, not_or] at h1
      have e0 : g 0 = ⊥ := le_bot_iff.mp (not_lt.mp h1.1)
      refine h1.2 ⟨e0, ?_⟩
      rw [Fin.lt_def]
      have : (ur 0).val = 0 := rfl
      omega
  · rintro rfl
    refine Finset.eq_empty_of_forall_notMem fun j hj => ?_
    rw [mem] at hj
    rcases rslot_cases j with ⟨a, rfl⟩ | h
    · rw [hf, hf] at hj
      rcases hj with h1 | ⟨h1, h2⟩
      · exact absurd h1 (not_lt_of_ge (hl.1 a))
      · exact absurd h2 (not_lt_of_ge (hl.2 a h1))
    · rw [hb j h, hf] at hj
      rcases hj with h1 | ⟨-, h2⟩
      · exact absurd h1 not_lt_bot
      · rw [Fin.lt_def] at h2
        have : (ur l).val = l.val := rfl
        omega

/-! ## The places as words -/

theorem fold_maxsi {n : ℕ} (b : BitVec 32) (w : Fin n → BitVec 32) (l : Fin n) (hb : b.toInt ≤ (w l).toInt)
    (hw : ∀ c, (w c).toInt ≤ (w l).toInt) : Finset.univ.fold IntOp.maxsi b w = w l := by
  have le : ∀ s : Finset (Fin n), (s.fold IntOp.maxsi b w).toInt ≤ (w l).toInt := by
    intro s
    induction s using Finset.induction_on with
    | empty => exact hb
    | insert a s ha ih =>
      rw [Finset.fold_insert ha]
      unfold IntOp.maxsi
      split
      · first | exact ih | exact hw a
      · first | exact hw a | exact ih
  have ge : ∀ s : Finset (Fin n), l ∈ s → (w l).toInt ≤ (s.fold IntOp.maxsi b w).toInt := by
    intro s hl
    rw [← Finset.insert_erase hl, Finset.fold_insert (Finset.notMem_erase l s)]
    generalize (s.erase l).fold IntOp.maxsi b w = F
    unfold IntOp.maxsi
    split
    · exact Int.le_refl _
    · rename_i h
      rw [BitVec.slt_iff_toInt_lt] at h
      omega
  exact BitVec.eq_of_toInt_eq (le_antisymm (le _) (ge _ (Finset.mem_univ l)))

theorem fold_minsi {n : ℕ} (b : BitVec 32) (w : Fin n → BitVec 32) (l : Fin n) (hb : (w l).toInt ≤ b.toInt)
    (hw : ∀ c, (w l).toInt ≤ (w c).toInt) : Finset.univ.fold IntOp.minsi b w = w l := by
  have le : ∀ s : Finset (Fin n), (w l).toInt ≤ (s.fold IntOp.minsi b w).toInt := by
    intro s
    induction s using Finset.induction_on with
    | empty => exact hb
    | insert a s ha ih =>
      rw [Finset.fold_insert ha]
      unfold IntOp.minsi
      split
      · first | exact ih | exact hw a
      · first | exact hw a | exact ih
  have ge : ∀ s : Finset (Fin n), l ∈ s → (s.fold IntOp.minsi b w).toInt ≤ (w l).toInt := by
    intro s hl
    rw [← Finset.insert_erase hl, Finset.fold_insert (Finset.notMem_erase l s)]
    generalize (s.erase l).fold IntOp.minsi b w = F
    unfold IntOp.minsi
    split
    · exact Int.le_refl _
    · rename_i h
      rw [BitVec.slt_iff_toInt_lt] at h
      omega
  exact BitVec.eq_of_toInt_eq (le_antisymm (ge _ (Finset.mem_univ l)) (le _))

theorem toInt_place : ∀ c : Fin 29, (BitVec.ofNat 32 c.val).toInt = c.val := by decide +kernel

theorem last_word (g : Fin 29 → EReal) (l : Fin 29) (hl : LastMin g l) :
    Finset.univ.fold IntOp.maxsi 2147483648#32 (fun c : Fin 29 =>
      if g c = Finset.univ.fold min ⊤ g then BitVec.ofNat 32 c.val else 4294967295#32) = BitVec.ofNat 32 l.val := by
  rw [fold_min g l hl]
  refine (fold_maxsi _ _ l ?_ fun c => ?_).trans (if_pos rfl)
  · rw [if_pos rfl, toInt_place]
    have : (2147483648#32 : BitVec 32).toInt = -2147483648 := by decide +kernel
    omega
  · rw [if_pos rfl, toInt_place]
    by_cases h : g c = g l
    · rw [if_pos h, toInt_place]
      exact_mod_cast Fin.le_def.mp (hl.2 c h)
    · rw [if_neg h]
      have : (4294967295#32 : BitVec 32).toInt = -1 := by decide +kernel
      omega

theorem first_word (g : Fin 14 → EReal) (l : Fin 14) (hl : FirstMax g l) :
    Finset.univ.fold IntOp.minsi 2147483647#32 (fun c : Fin 14 =>
      if g c = Finset.univ.fold max ⊥ g then BitVec.ofNat 32 c.val else 14#32) = BitVec.ofNat 32 l.val := by
  have tp : ∀ c : Fin 14, (BitVec.ofNat 32 c.val).toInt = c.val := fun c => toInt_place ⟨c.val, by omega⟩
  rw [fold_max g l hl]
  refine (fold_minsi _ _ l ?_ fun c => ?_).trans (if_pos rfl)
  · rw [if_pos rfl, tp]
    have : (2147483647#32 : BitVec 32).toInt = 2147483647 := by decide +kernel
    omega
  · rw [if_pos rfl, tp]
    by_cases h : g c = g l
    · rw [if_pos h, tp]
      exact_mod_cast Fin.le_def.mp (hl.2 c h)
    · rw [if_neg h]
      have : (14#32 : BitVec 32).toInt = 14 := by decide +kernel
      omega

theorem word_inj {a b : ℕ} (ha : a < 64) (hb : b < 64) : BitVec.ofNat 32 a = BitVec.ofNat 32 b ↔ a = b := by
  constructor
  · intro e
    have e2 := congrArg BitVec.toNat e
    simp only [BitVec.toNat_ofNat] at e2
    omega
  · rintro rfl; rfl

end Cert.Attn

end
-- ==== Proof.Same.lean ====
/-
  The two forms of one head's cache hold the same entries, and one token's step keeps it so: the
  scores, the place that empties, the residual and the attention row.
-/
module

public import proofs.«01_k».proof.Proof.Numbers
public import proofs.«01_k».proof.Proof.Order

@[expose] public section

noncomputable section

namespace Cert.Attn

open Idealize.ShloMosaic

/-- Before token `t`, with `f` the free place: the slots and the places hold the same. -/
structure Same (t : ℕ) (f : Fin 29) (S : Slots) (P : Places) : Prop where
  K : ∀ c, S.K (up c) = P.K c
  V : ∀ c, S.V (up c) = P.V c
  s : ∀ c, S.s (up c) = P.s c
  low : ∀ c : Fin 32, 29 ≤ c.val → S.s c = ⊥
  ins : ∀ c : Fin 32, S.ins c = ind (c.val = f.val)
  free : P.free = BitVec.ofNat 32 f.val
  rK : ∀ r, S.rK (ur r) = P.rK r
  rV : ∀ r, S.rV (ur r) = P.rV r
  rc : ∀ r, S.rc (ur r) = P.rc r
  sign : ∀ c, P.s c = ⊥ ∨ 0 ≤ P.s c
  live : ∀ c, P.s c = ⊥ ↔ c = f ∨ t ≤ c.val
  first : t ≤ 28 → f.val = t

/-- Past the threshold is occupied. -/
theorem cut_iff {x : EReal} (h : x = ⊥ ∨ 0 ≤ x) : cut < x ↔ ⊥ < x := by
  rcases h with h | h
  · rw [h]; simp
  · exact ⟨fun e => lt_trans cut_bot e, fun _ => lt_of_lt_of_le cut_neg h⟩

theorem nr_le (t : ℕ) : nr t ≤ 14 := by unfold nr; omega

section
variable {t : ℕ} {q k v kp : Row} {S : Slots} {P : Places} {f : Fin 29} (H : Same t f S P)
include H

theorem Same.into_up (c : Fin 29) : S.into (up c) ↔ c = f := by
  unfold Slots.into
  rw [H.ins, half_lt_ind]
  exact ⟨fun e => Fin.ext e, fun e => congrArg Fin.val e⟩

theorem Same.into_low (c : Fin 32) (hc : 29 ≤ c.val) : ¬ S.into c := by
  unfold Slots.into
  rw [H.ins, half_lt_ind]
  omega

theorem Same.enters (c : Fin 29) : P.enters c ↔ c = f := by
  unfold Places.enters
  rw [H.free, word_inj (by omega) (by omega)]
  exact ⟨fun e => Fin.ext e, fun e => congrArg Fin.val e⟩

theorem Same.eC_up (c : Fin 29) : S.eC q (up c) = P.eC q c := by
  unfold Slots.eC Places.eC
  rw [H.s, H.K, sc_eq]
  exact if_congr (cut_iff (H.sign c)) rfl rfl

theorem Same.eC_low (c : Fin 32) (hc : 29 ≤ c.val) : S.eC q c = 0 := by
  unfold Slots.eC
  rw [H.low c hc, if_neg (not_lt_of_gt cut_bot)]

theorem Same.eR_up (r : Fin 14) : S.eR t q (ur r) = P.eR t q r := by
  unfold Slots.eR Places.eR
  rw [H.rK, sc_eq]
  rfl

omit H in
theorem eR_low (r : Fin 16) (hr : 14 ≤ r.val) : S.eR t q r = 0 := by
  unfold Slots.eR
  have := nr_le t
  rw [if_neg (by omega)]

theorem Same.den_eq : S.den t q kp = P.den t q kp := by
  unfold Slots.den Places.den Slots.eP Places.eP
  rw [sum_up _ H.eC_low, sum_ur _ fun r hr => eR_low r hr, sc_eq]
  simp only [H.eC_up, H.eR_up]

omit H in
theorem eC_nonneg (c : Fin 29) : 0 ≤ P.eC q c := by
  unfold Places.eC
  split
  · exact exp_nonneg _
  · exact le_refl _

omit H in
theorem eR_nonneg (r : Fin 14) : 0 ≤ P.eR t q r := by
  unfold Places.eR
  split
  · exact exp_nonneg _
  · exact le_refl _

omit H in
theorem den_pos (hq : Reals q) (hp : Reals kp) : 0 < P.den t q kp := by
  unfold Places.den Places.eP
  rw [sc_eq]
  refine lt_of_lt_of_le (sc_pos hq hp) (le_add_of_nonneg_left ?_)
  exact add_nonneg (Finset.sum_nonneg fun c _ => eC_nonneg c) (Finset.sum_nonneg fun r _ => eR_nonneg r)

theorem Same.newS_eq : S.newS t q kp = P.newS t q kp := by
  unfold Slots.newS Places.newS
  rw [H.den_eq, show (0 : Fin 16) = ur 0 from rfl, H.eR_up]
  unfold Slots.eP Places.eP
  rw [sc_eq]
  split <;> rfl

omit H in
theorem newS_nonneg (hq : Reals q) (hp : Reals kp) : 0 ≤ P.newS t q kp := by
  unfold Places.newS
  split
  · exact div_nonneg (eR_nonneg _) (den_pos hq hp)
  · exact div_nonneg (exp_nonneg _) (den_pos hq hp)

/-! ## The scores once the token has entered -/

theorem Same.aS_up (c : Fin 29) : S.aS t q kp (up c) = P.aS t q kp c := by
  unfold Slots.aS Places.aS
  rw [H.newS_eq, H.s, H.eC_up, H.den_eq]
  exact if_congr ((H.into_up c).trans (H.enters c).symm) rfl rfl

theorem Same.aS_low (hq : Reals q) (hp : Reals kp) (c : Fin 32) (hc : 29 ≤ c.val) : S.aS t q kp c = ⊥ := by
  unfold Slots.aS
  rw [if_neg (H.into_low c hc), H.low c hc, EReal.bot_mul_of_pos decay_pos, EReal.bot_add]

theorem Same.aK_up (c : Fin 29) : S.aK k (up c) = P.aK k c := by
  unfold Slots.aK Places.aK
  rw [H.K]
  funext d
  exact if_congr ((H.into_up c).trans (H.enters c).symm) rfl rfl

theorem Same.aV_up (c : Fin 29) : S.aV v (up c) = P.aV v c := by
  unfold Slots.aV Places.aV
  rw [H.V]
  funext d
  exact if_congr ((H.into_up c).trans (H.enters c).symm) rfl rfl

theorem Same.aS_cases (hq : Reals q) (hp : Reals kp) (c : Fin 29) :
    (c ≠ f ∧ t ≤ c.val ∧ P.aS t q kp c = ⊥) ∨ ((c = f ∨ c.val < t) ∧ 0 ≤ P.aS t q kp c) := by
  unfold Places.aS
  by_cases hc : c = f
  · rw [if_pos ((H.enters c).mpr hc)]
    exact Or.inr ⟨Or.inl hc, newS_nonneg hq hp⟩
  · rw [if_neg (fun e => hc ((H.enters c).mp e))]
    by_cases ht : t ≤ c.val
    · rw [(H.live c).mpr (Or.inr ht), EReal.bot_mul_of_pos decay_pos, EReal.bot_add]
      exact Or.inl ⟨hc, ht, rfl⟩
    · refine Or.inr ⟨Or.inr (by omega), ?_⟩
      rcases H.sign c with e | e
      · rcases (H.live c).mp e with h | h
        · exact absurd h hc
        · exact absurd h ht
      · exact add_nonneg (mul_nonneg e decay_pos.le) (div_nonneg (eC_nonneg c) (den_pos hq hp))

theorem Same.aS_full (hq : Reals q) (hp : Reals kp) (ht : 28 ≤ t) (c : Fin 29) : 0 ≤ P.aS t q kp c := by
  rcases H.aS_cases hq hp c with ⟨h1, h2, -⟩ | ⟨-, h⟩
  · exfalso
    have h3 := H.first (by omega)
    exact h1 (Fin.ext (by omega))
  · exact h

/-! ## The place that empties -/

theorem Same.em_low (hq : Reals q) (hp : Reals kp) (ht : t < 28) (c : Fin 32) (h : S.em t q kp c) :
    S.aS t q kp c = ⊥ := by
  refine rank_low _ t ht (fun j hj => ?_) c h
  rcases slot_cases j with ⟨a, rfl⟩ | h2
  · rw [H.aS_up]
    rcases H.aS_cases hq hp a with ⟨-, -, e⟩ | ⟨h3 | h3, -⟩
    · exact e
    · have h4 := H.first (by omega)
      have h5 : (up f).val = f.val := rfl
      rw [h3] at hj
      omega
    · have h5 : (up a).val = a.val := rfl
      omega
  · exact H.aS_low hq hp j h2

theorem Same.em_iff (hq : Reals q) (hp : Reals kp) (ht : 28 ≤ t) {l : Fin 29} (hl : LastMin (P.aS t q kp) l)
    (c : Fin 32) : S.em t q kp c ↔ c = up l :=
  rank_min _ _ H.aS_up (H.aS_low hq hp)
    (fun a e => by have := H.aS_full hq hp ht a; rw [e] at this; exact absurd this (by simp)) l hl c

omit H in
theorem leaves_eq {l : Fin 29} (hl : LastMin (P.aS t q kp) l) : P.leaves t q kp = BitVec.ofNat 32 l.val :=
  last_word _ l hl

omit H in
theorem gone_iff {l : Fin 29} (hl : LastMin (P.aS t q kp) l) (c : Fin 29) : P.gone t q kp c ↔ c = l := by
  unfold Places.gone
  rw [leaves_eq hl, word_inj (by omega) (by omega)]
  exact ⟨fun e => Fin.ext e, fun e => congrArg Fin.val e⟩

theorem Same.ek_eq (hq : Reals q) (hp : Reals kp) (ht : 28 ≤ t) : S.ek t q k kp = P.ek t q k kp := by
  obtain ⟨l, hl⟩ := exists_lastMin (P.aS t q kp)
  funext d
  unfold Slots.ek Places.ek
  simp only [H.em_iff hq hp ht hl, gone_iff hl, Finset.sum_ite_eq', Finset.mem_univ, if_true, H.aK_up]

theorem Same.ev_eq (hq : Reals q) (hp : Reals kp) (ht : 28 ≤ t) : S.ev t q v kp = P.ev t q v kp := by
  obtain ⟨l, hl⟩ := exists_lastMin (P.aS t q kp)
  funext d
  unfold Slots.ev Places.ev
  simp only [H.em_iff hq hp ht hl, gone_iff hl, Finset.sum_ite_eq', Finset.mem_univ, if_true, H.aV_up]

theorem Same.nS_up (hq : Reals q) (hp : Reals kp) (c : Fin 29) : S.nS t q kp (up c) = P.nS t q kp c := by
  unfold Slots.nS Places.nS
  rw [H.aS_up]
  by_cases ht : 28 ≤ t
  · obtain ⟨l, hl⟩ := exists_lastMin (P.aS t q kp)
    refine if_congr ?_ rfl rfl
    rw [H.em_iff hq hp ht hl, gone_iff hl]
    exact ⟨fun e => ⟨ht, up_inj e⟩, fun e => congrArg up e.2⟩
  · have hn : ¬ (28 ≤ t ∧ P.gone t q kp c) := fun e => ht e.1
    rw [if_neg hn]
    split
    · rename_i h
      rw [← H.aS_up, H.em_low hq hp (by omega) _ h]
    · rfl

theorem Same.nS_low (hq : Reals q) (hp : Reals kp) (c : Fin 32) (hc : 29 ≤ c.val) : S.nS t q kp c = ⊥ := by
  unfold Slots.nS
  rw [H.aS_low hq hp c hc]
  split <;> rfl

theorem Same.nS_sign (hq : Reals q) (hp : Reals kp) (c : Fin 29) : P.nS t q kp c = ⊥ ∨ 0 ≤ P.nS t q kp c := by
  unfold Places.nS
  split
  · exact Or.inl rfl
  · rcases H.aS_cases hq hp c with ⟨-, -, e⟩ | ⟨-, e⟩
    · exact Or.inl e
    · exact Or.inr e

/-! ## The residual -/

theorem Same.sims_up (hq : Reals q) (hp : Reals kp) (ht : 28 ≤ t) (r : Fin 14) :
    S.sims t q k kp (ur r) = P.sims t q k kp r := by
  unfold Slots.sims Places.sims
  rw [if_pos (show (ur r).val < 14 from r.isLt), H.rK, H.ek_eq hq hp ht]

omit H in
theorem sims_low (r : Fin 16) (hr : 14 ≤ r.val) : S.sims t q k kp r = ⊥ := by
  unfold Slots.sims
  rw [if_neg (by omega)]

theorem Same.oh_iff (hq : Reals q) (hp : Reals kp) (ht : 28 ≤ t) {l : Fin 14} (hl : FirstMax (P.sims t q k kp) l)
    (r : Fin 16) : S.oh t q k kp r ↔ r = ur l :=
  rank_max _ _ (H.sims_up hq hp ht) (fun r hr => sims_low r hr) l hl r

omit H in
theorem likest_eq {l : Fin 14} (hl : FirstMax (P.sims t q k kp) l) : P.likest t q k kp = BitVec.ofNat 32 l.val :=
  first_word _ l hl

omit H in
theorem into_room (ht : 28 ≤ t) (hn : nr t < 14) (r : Fin 14) : P.into t q k kp r ↔ r.val = nr t := by
  unfold Places.into
  rw [if_pos hn, word_inj (by omega) (by omega)]
  exact ⟨fun e => e.2, fun e => ⟨ht, e⟩⟩

omit H in
theorem into_likest (ht : 28 ≤ t) (hn : ¬ nr t < 14) {l : Fin 14} (hl : FirstMax (P.sims t q k kp) l) (r : Fin 14) :
    P.into t q k kp r ↔ r = l := by
  unfold Places.into
  rw [if_neg hn, likest_eq hl, word_inj (by omega) (by omega)]
  exact ⟨fun e => Fin.ext e.2, fun e => ⟨ht, congrArg Fin.val e⟩⟩

theorem Same.rK_up (hq : Reals q) (hp : Reals kp) (r : Fin 14) : S.rK' t q k kp (ur r) = P.rK' t q k kp r := by
  funext d
  unfold Slots.rK' Places.rK'
  by_cases ht : 28 ≤ t
  · rw [if_pos ht, H.rK]
    by_cases hn : nr t < 14
    · rw [if_pos hn, if_pos hn, H.ek_eq hq hp ht]
      exact if_congr (into_room ht hn r).symm rfl rfl
    · obtain ⟨l, hl⟩ := exists_firstMax (P.sims t q k kp)
      rw [if_neg hn, if_neg hn]
      by_cases hr : r = l
      · subst hr
        rw [if_pos ((H.oh_iff hq hp ht hl _).mpr rfl), if_pos ((into_likest ht hn hl _).mpr rfl)]
        unfold Slots.gk Slots.oc
        simp only [H.oh_iff hq hp ht hl, Finset.sum_ite_eq', Finset.mem_univ, if_true, H.rc, H.rK, H.ek_eq hq hp ht]
      · rw [if_neg (fun e => hr (ur_inj ((H.oh_iff hq hp ht hl _).mp e))),
          if_neg (fun e => hr ((into_likest ht hn hl _).mp e))]
  · rw [if_neg ht, H.rK, if_neg (fun e : P.into t q k kp r => ht e.1)]

theorem Same.rV_up (hq : Reals q) (hp : Reals kp) (r : Fin 14) : S.rV' t q k v kp (ur r) = P.rV' t q k v kp r := by
  funext d
  unfold Slots.rV' Places.rV'
  by_cases ht : 28 ≤ t
  · rw [if_pos ht, H.rV]
    by_cases hn : nr t < 14
    · rw [if_pos hn, if_pos hn, H.ev_eq hq hp ht]
      exact if_congr (into_room ht hn r).symm rfl rfl
    · obtain ⟨l, hl⟩ := exists_firstMax (P.sims t q k kp)
      rw [if_neg hn, if_neg hn]
      by_cases hr : r = l
      · subst hr
        rw [if_pos ((H.oh_iff hq hp ht hl _).mpr rfl), if_pos ((into_likest ht hn hl _).mpr rfl)]
        unfold Slots.gv Slots.oc
        simp only [H.oh_iff hq hp ht hl, Finset.sum_ite_eq', Finset.mem_univ, if_true, H.rc, H.rV, H.ev_eq hq hp ht]
      · rw [if_neg (fun e => hr (ur_inj ((H.oh_iff hq hp ht hl _).mp e))),
          if_neg (fun e => hr ((into_likest ht hn hl _).mp e))]
  · rw [if_neg ht, H.rV, if_neg (fun e : P.into t q k kp r => ht e.1)]

theorem Same.rc_up (hq : Reals q) (hp : Reals kp) (r : Fin 14) : S.rc' t q k kp (ur r) = P.rc' t q k kp r := by
  unfold Slots.rc' Places.rc'
  by_cases ht : 28 ≤ t
  · rw [if_pos ht, H.rc]
    by_cases hn : nr t < 14
    · rw [if_pos hn, if_pos hn]
      exact if_congr (into_room ht hn r).symm rfl rfl
    · obtain ⟨l, hl⟩ := exists_firstMax (P.sims t q k kp)
      rw [if_neg hn, if_neg hn]
      unfold ind
      by_cases hr : r = l
      · subst hr
        rw [if_pos ((H.oh_iff hq hp ht hl _).mpr rfl), if_pos ((into_likest ht hn hl _).mpr rfl)]
      · rw [if_neg (fun e => hr (ur_inj ((H.oh_iff hq hp ht hl _).mp e))),
          if_neg (fun e => hr ((into_likest ht hn hl _).mp e)), add_zero]
  · rw [if_neg ht, H.rc, if_neg (fun e : P.into t q k kp r => ht e.1)]

/-! ## The attention row -/

theorem Same.fC_up (hq : Reals q) (hp : Reals kp) (c : Fin 29) : S.fC t q k kp (up c) = P.fC t q k kp c := by
  unfold Slots.fC Places.fC
  rw [H.nS_up hq hp, log_one, mul_zero, add_zero, sc_eq]
  refine if_congr (cut_iff (H.nS_sign hq hp c)) (congrArg Ideal.exp ?_) rfl
  rw [H.K]
  unfold Places.aK
  by_cases hc : c = f
  · simp only [(H.into_up c).mpr hc, (H.enters c).mpr hc, if_true]
  · have h1 : ¬ S.into (up c) := fun e => hc ((H.into_up c).mp e)
    have h2 : ¬ P.enters c := fun e => hc ((H.enters c).mp e)
    simp only [h1, h2, if_false]

theorem Same.fC_low (hq : Reals q) (hp : Reals kp) (c : Fin 32) (hc : 29 ≤ c.val) : S.fC t q k kp c = 0 := by
  unfold Slots.fC
  rw [H.nS_low hq hp c hc, if_neg (not_lt_of_gt cut_bot)]

theorem Same.fR_up (hq : Reals q) (hp : Reals kp) (r : Fin 14) : S.fR t q k kp (ur r) = P.fR t q k kp r := by
  unfold Slots.fR Places.fR
  rw [H.rK_up hq hp, H.rc_up hq hp, sc_eq]
  rfl

omit H in
theorem fR_low (r : Fin 16) (hr : 14 ≤ r.val) : S.fR t q k kp r = 0 := by
  unfold Slots.fR
  have := nr_le (t + 1)
  rw [if_neg (by omega)]

omit H in
theorem fP_eq : Places.fP q k = Ideal.exp (Slots.sc q k) := by
  unfold Places.fP
  rw [log_one, mul_zero, add_zero, sc_eq]

theorem Same.fden_eq (hq : Reals q) (hp : Reals kp) : S.fden t q k kp = P.fden t q k kp := by
  unfold Slots.fden Places.fden
  rw [sum_up _ (H.fC_low hq hp), sum_ur _ fun r hr => fR_low r hr, fP_eq]
  simp only [H.fC_up hq hp, H.fR_up hq hp]

omit H in
theorem fden_pos (hq : Reals q) (hk : Reals k) : 0 < P.fden t q k kp := by
  unfold Places.fden
  rw [fP_eq]
  refine lt_of_lt_of_le (sc_pos hq hk) (le_add_of_nonneg_left ?_)
  refine add_nonneg (Finset.sum_nonneg fun c _ => ?_) (Finset.sum_nonneg fun r _ => ?_)
  · unfold Places.fC
    split
    · exact exp_nonneg _
    · exact le_refl _
  · unfold Places.fR
    split
    · exact exp_nonneg _
    · exact le_refl _

theorem Same.out_eq (hq : Reals q) (hk : Reals k) (hp : Reals kp) : S.out t q k v kp = P.out t q k v kp := by
  funext d
  have hd := fden_pos (P := P) (t := t) (kp := kp) hq hk
  have dist := fun x y : EReal =>
    EReal.right_distrib_of_nonneg_of_ne_top (inv_nonneg' hd.le) (inv_ne_top hd) x y
  unfold Slots.out Places.out
  rw [H.fden_eq hq hp, sum_up _ (fun c hc => by rw [H.fC_low hq hp c hc, zero_mul]),
    sum_ur _ (fun r hr => by rw [fR_low r hr, zero_mul]), div_sum hd, div_sum hd, fP_eq, div_eq hd, div_eq hd,
    mul_right_comm, ← dist, ← dist]
  simp only [H.fC_up hq hp, H.fR_up hq hp, H.aV_up, H.rV_up hq hp]

/-! ## The step -/

theorem Same.next (hq : Reals q) (hp : Reals kp) :
    ∃ f', Same (t + 1) f' (S.next t q k v kp) (P.next t q k v kp) := by
  by_cases ht : 28 ≤ t
  · obtain ⟨l, hl⟩ := exists_lastMin (P.aS t q kp)
    refine ⟨l, H.aK_up, H.aV_up, H.nS_up hq hp, H.nS_low hq hp, fun c => ?_, ?_, H.rK_up hq hp, H.rV_up hq hp,
      H.rc_up hq hp, H.nS_sign hq hp, fun c => ?_, fun h => by omega⟩
    · show S.ins' t q kp c = _
      unfold Slots.ins' ind
      rw [if_pos ht]
      exact if_congr ((H.em_iff hq hp ht hl c).trans ⟨fun e => congrArg Fin.val e, fun e => Fin.ext e⟩) rfl rfl
    · show P.free' t q kp = _
      unfold Places.free'
      rw [if_pos ht, leaves_eq hl]
    · show P.nS t q kp c = ⊥ ↔ _
      unfold Places.nS
      by_cases hc : c = l
      · rw [if_pos ⟨ht, (gone_iff hl c).mpr hc⟩]
        exact ⟨fun _ => Or.inl hc, fun _ => rfl⟩
      · rw [if_neg (fun e => hc ((gone_iff hl c).mp e.2))]
        constructor
        · intro e
          have := H.aS_full hq hp ht c
          rw [e] at this
          exact absurd this (by simp)
        · rintro (e | e)
          · exact absurd e hc
          · omega
  · have hf := H.first (by omega)
    refine ⟨⟨t + 1, by omega⟩, H.aK_up, H.aV_up, H.nS_up hq hp, H.nS_low hq hp, fun c => ?_, ?_, H.rK_up hq hp,
      H.rV_up hq hp, H.rc_up hq hp, H.nS_sign hq hp, fun c => ?_, fun _ => rfl⟩
    · show S.ins' t q kp c = _
      unfold Slots.ins' ind
      rw [if_neg ht]
      exact if_congr (by rw [Nat.min_eq_left (by omega : t + 1 ≤ 28)]) rfl rfl
    · show P.free' t q kp = _
      unfold Places.free'
      rw [if_neg ht]
    · show P.nS t q kp c = ⊥ ↔ _
      unfold Places.nS
      rw [if_neg (fun e => ht e.1)]
      rcases H.aS_cases hq hp c with ⟨h1, h2, e⟩ | ⟨h1, e⟩
      · refine ⟨fun _ => Or.inr ?_, fun _ => e⟩
        have h3 : c.val ≠ f.val := fun h => h1 (Fin.ext h)
        omega
      · constructor
        · intro e2
          rw [e2] at e
          exact absurd e (by simp)
        · intro h
          exfalso
          rcases h with h | h
          · have h2 := congrArg Fin.val h
            simp only at h2
            rcases h1 with h1 | h1
            · rw [h1] at h2; omega
            · omega
          · rcases h1 with h1 | h1
            · rw [h1] at h; omega
            · omega

end

end Cert.Attn

end
-- ==== Proof.SameRows.lean ====
/-
  Token by token the two forms of one head's cache hold the same, and give the same attention rows.
-/
module

public import proofs.«01_k».proof.Proof.Same
public import proofs.«01_k».proof.Proof.History

@[expose] public section

noncomputable section

namespace Cert.Attn

open Idealize.ShloMosaic

theorem same_start (k v : Row) : Same 1 ⟨1, by omega⟩ (Slots.start k v) (Places.start k v) := by
  refine ⟨fun _ => rfl, fun _ => rfl, fun _ => rfl, fun c hc => ?_, fun _ => rfl, rfl, fun _ => rfl, fun _ => rfl,
    fun _ => rfl, fun c => ?_, fun c => ?_, fun _ => rfl⟩
  · exact if_neg (by omega)
  · show (if c.val = 0 then (1 : EReal) else ⊥) = ⊥ ∨ 0 ≤ (if c.val = 0 then (1 : EReal) else ⊥)
    by_cases h : c.val = 0
    · rw [if_pos h]; exact Or.inr zero_le_one
    · rw [if_neg h]; exact Or.inl rfl
  · show (if c.val = 0 then (1 : EReal) else ⊥) = ⊥ ↔ _
    by_cases h : c.val = 0
    · rw [if_pos h]
      refine ⟨fun e => absurd e (EReal.coe_ne_bot 1), ?_⟩
      rintro (e | e)
      · rw [e] at h; exact absurd h (by simp)
      · omega
    · rw [if_neg h]
      exact ⟨fun _ => Or.inr (by omega), fun _ => rfl⟩

section
variable (q k v : ℕ → Row) (hq : ∀ n, Reals (q n)) (hk : ∀ n, Reals (k n))
include hq hk

theorem same_run (n : ℕ) : ∃ f, Same (n + 1) f (Slots.run q k v n) (Places.run q k v n) := by
  induction n with
  | zero => exact ⟨_, same_start (k 0) (v 0)⟩
  | succ n ih =>
    obtain ⟨f, H⟩ := ih
    exact H.next (hq (n + 1)) (hk n)

theorem same_row (n : ℕ) : Slots.row q k v n = Places.row q k v n := by
  cases n with
  | zero => rfl
  | succ n =>
    obtain ⟨f, H⟩ := same_run q k v hq hk n
    exact H.out_eq (hq (n + 1)) (hk (n + 1)) (hk n)

end

end Cert.Attn

end
-- ==== Proof.Equal.lean ====
/-
  The equation: over finite queries and keys the kernel's output block is the reference's result.
-/
module

public import proofs.«01_k».proof.Proof.Finite
public import proofs.«01_k».proof.Proof.SameRows

@[expose] public section

set_option maxRecDepth 16384

noncomputable section

namespace Cert.Attn

open Idealize.ShloMosaic Idealize.ShloMosaic.TcCoe Idealize.ShloMosaic.Tactic
open Cert.KernelIdeal Cert.KernelIdeal.Gen

variable (a0 : FVec Ideal S1x64x512 .f32) (a1 : FVec Ideal S512x512 .f32) (a2 : FVec Ideal S512 .f32)
  (a3 : FVec Ideal S512x512 .f32) (a4 : FVec Ideal S512 .f32) (a5 : FVec Ideal S512x512 .f32) (a6 : FVec Ideal S512 .f32)
  (a7 : FVec Ideal S512x512 .f32) (a8 : FVec Ideal S512 .f32)

/-- The five arrays the queries and keys are made of hold real numbers. -/
structure RealInputs : Prop where
  x : ∀ t j, ∃ r : ℝ, a0 (ix3 (0 : Fin 1) t j) = (r : EReal)
  wq : ∀ i j, ∃ r : ℝ, a1 (ix2 i j) = (r : EReal)
  bq : ∀ j, ∃ r : ℝ, a2 (ix1 j) = (r : EReal)
  wk : ∀ i j, ∃ r : ℝ, a3 (ix2 i j) = (r : EReal)
  bk : ∀ j, ∃ r : ℝ, a4 (ix1 j) = (r : EReal)

variable (H : RealInputs a0 a1 a2 a3 a4)
include H

theorem q_real (h : Fin 8) (n : ℕ) : Reals (Ref.toks (Ref.rowsQ a0 a1 a2 a3 a4 a5 a6) h n) :=
  tokens_real _ h (fun t d => by
    rw [rq_at]
    exact linear_real a0 a1 a2 H.x H.wq H.bq t h d) n

theorem k_real (h : Fin 8) (n : ℕ) : Reals (Ref.toks (Ref.rowsK a0 a1 a2 a3 a4 a5 a6) h n) :=
  tokens_real _ h (fun t d => by
    rw [rk_at]
    exact linear_real a0 a3 a4 H.x H.wk H.bk t h d) n

/-- The attention rows of the kernel are those the reference's loop ends with. -/
theorem rows_eq : rows (F := Ideal) (Ref.rowsQ a0 a1 a2 a3 a4 a5 a6) (Ref.rowsK a0 a1 a2 a3 a4 a5 a6) (Ref.rowsV a0 a1 a2 a3 a4 a5 a6)
    = (Ref.it a0 a1 a2 a3 a4 a5 a6 63).main_v46_15 :=
  ext3 fun t h d => by
    rw [rows_at, Ref.last_rows]
    exact congrFun (same_row _ _ _ (q_real a0 a1 a2 a3 a4 a5 a6 H h) (k_real a0 a1 a2 a3 a4 a5 a6 H h) t.val) d

/-- The output block is the reference's result. -/
theorem body_eq : bodyOut (F := Ideal) a0 a1 (asRow a2) a3 (asRow a4) a5 (asRow a6) a7 (asRow a8)
    = ReferenceIdeal.Step.R_main_v53 (F := Ideal) (Ref.it a0 a1 a2 a3 a4 a5 a6 63) a7 a8 := by
  unfold bodyOut
  rw [q_rows a0 a1 a2 a3 a4 a5 a6, k_rows a0 a1 a2 a3 a4 a5 a6, v_rows a0 a1 a2 a3 a4 a5 a6, rows_eq a0 a1 a2 a3 a4 a5 a6 H]
  exact out_rows _ a7 a8

end Cert.Attn

end
-- ==== Proof.BodyLoop.lean ====
/-
  The loop of the body, trip by trip: what it carries is `carry`, and the rows it has stored read as
  `rows`.
-/
module

public import proofs.«01_k».proof.Proof.BodyRows

@[expose] public section

set_option maxRecDepth 16384

noncomputable section

namespace Cert.Attn

open Idealize.ShloMosaic Idealize.ShloMosaic.TcCoe Idealize.ShloMosaic.Tactic
open Cert.KernelIdeal Cert.KernelIdeal.Gen

variable {F : FTy → Type} [FloatOps F] [Named F]

theorem trips_eq : k0_t1_loop.trips = 63 := by decide +kernel

theorem row_coords (j : S64x8x64.Idx) (n : ℕ) (h : (j 0).val = n) :
    ∀ a, (j a).val = (![n, 0, 0] : Fin 3 → ℕ) a + ((ix3 (0 : Fin 1) (j 1) (j 2) : S1x8x64.Idx) a).val := by
  intro a
  match a with
  | ⟨0, _⟩ => show (j 0).val = n + 0; omega
  | ⟨1, _⟩ => show (j 1).val = 0 + (j 1).val; omega
  | ⟨2, _⟩ => show (j 2).val = 0 + (j 2).val; omega

variable (𝒱 : Variants) (c : Dev nD) (bd : Option 𝒱.V)
  (arg0 : Memref sig .tc .vmem S1x64x512 .f32) (harg0 : arg0.IsWhole)
  (arg1 : Memref sig .tc .vmem S512x512 .f32) (harg1 : arg1.IsWhole)
  (arg2 : Memref sig .tc .vmem S1x512 .f32) (harg2 : arg2.IsWhole)
  (arg3 : Memref sig .tc .vmem S512x512 .f32) (harg3 : arg3.IsWhole)
  (arg4 : Memref sig .tc .vmem S1x512 .f32) (harg4 : arg4.IsWhole)
  (arg5 : Memref sig .tc .vmem S512x512 .f32) (harg5 : arg5.IsWhole)
  (arg6 : Memref sig .tc .vmem S1x512 .f32) (harg6 : arg6.IsWhole)
  (arg7 : Memref sig .tc .vmem S512x512 .f32) (harg7 : arg7.IsWhole)
  (arg8 : Memref sig .tc .vmem S1x512 .f32) (harg8 : arg8.IsWhole)
  (arg9 : Memref sig .tc .vmem S1x64x512 .f32) (harg9 : arg9.IsWhole)
  (arg10 : Memref sig .tc .vmem S64x8x64 .f32) (harg10 : arg10.IsWhole)
  (arg11 : Memref sig .tc .vmem S64x8x64 .f32) (harg11 : arg11.IsWhole)
  (arg12 : Memref sig .tc .vmem S64x8x64 .f32) (harg12 : arg12.IsWhole)
  (arg13 : Memref sig .tc .vmem S64x8x64 .f32) (harg13 : arg13.IsWhole)
  (Xq : BufTy.Contents (Elt F) arg10.view.ty)
  (Xk : BufTy.Contents (Elt F) arg11.view.ty) (Xv : BufTy.Contents (Elt F) arg12.view.ty)
  (q k v : Vec F S64x8x64 .f32)

/-- A trip over buffers holding `q`, `k`, `v` is the trip over these arrays. -/
theorem tripAt_eq (hq : arg10.view.read (Elt F) Xq = q) (hk : arg11.view.read (Elt F) Xk = k)
    (hv : arg12.view.read (Elt F) Xv = v) (i : Fin k0_t1_loop.trips) (a : Carry F) :
    tripAt arg10 arg11 arg12 consts Xq Xk Xv i a = trip q k v i a := by
  unfold tripAt trip
  simp only [View.readAt_eq_ld, hq, hk, hv]

set_option maxHeartbeats 1000000 in
/-- Before trip `n` the loop carries `carry n`; it has stored rows `1` to `n`, and the rest of the
    buffer is as it was. -/
theorem loop_state (hq : arg10.view.read (Elt F) Xq = q) (hk : arg11.view.read (Elt F) Xk = k)
    (hv : arg12.view.read (Elt F) Xv = v) (n : ℕ) (hn : n ≤ k0_t1_loop.trips) :
    (st_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 (consts (F := F)).slot (consts (F := F)).rslot (consts (F := F)).Bh (consts (F := F)).BhT (consts (F := F)).Br (consts (F := F)).BrT (consts (F := F)).E0r (consts (F := F)).sameh (consts (F := F)).samehr (consts (F := F)).ltij (consts (F := F)).ltijr Xq Xk Xv (carry0 (View.ld k rect0) (View.ld v rect0)) n).1 = carry q k v n ∧
    ∀ (f : BufTy.Contents (Elt F) arg13.view.ty) (L : List (View.Piece (Elt F) S64x8x64 .f32))
      (j : S64x8x64.Idx),
      arg13.view.read (Elt F) (arg13.view.writes (Elt F) f ((st_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 (consts (F := F)).slot (consts (F := F)).rslot (consts (F := F)).Bh (consts (F := F)).BhT (consts (F := F)).Br (consts (F := F)).BrT (consts (F := F)).E0r (consts (F := F)).sameh (consts (F := F)).samehr (consts (F := F)).ltij (consts (F := F)).ltijr Xq Xk Xv (carry0 (View.ld k rect0) (View.ld v rect0)) n).2 ++ L)) j
        = if 0 < (j 0).val ∧ (j 0).val ≤ n then rows q k v j
          else arg13.view.read (Elt F) (arg13.view.writes (Elt F) f L) j := by
  induction n with
  | zero =>
    refine ⟨rfl, fun f L j => ?_⟩
    rw [if_neg (by omega)]
    rfl
  | succ n ih =>
    have hlt : n < k0_t1_loop.trips := hn
    obtain ⟨ih1, ih2⟩ := ih hlt.le
    have hs := st_k0_t1_succ (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 (consts (F := F)).slot (consts (F := F)).rslot (consts (F := F)).Bh (consts (F := F)).BhT (consts (F := F)).Br (consts (F := F)).BrT (consts (F := F)).E0r (consts (F := F)).sameh (consts (F := F)).samehr (consts (F := F)).ltij (consts (F := F)).ltijr Xq Xk Xv (carry0 (View.ld k rect0) (View.ld v rect0)) ⟨n, hlt⟩
    dsimp only at hs
    rw [hs, ih1]
    have hR := tripR_eq (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 consts Xq Xk Xv ⟨n, hlt⟩ (carry q k v n)
    have hL := tripL_eq (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 consts Xq Xk Xv ⟨n, hlt⟩ (carry q k v n)
    rw [tripAt_eq arg10 arg11 arg12 Xq Xk Xv q k v hq hk hv] at hR hL
    refine ⟨?_, fun f L j => ?_⟩
    · show tripR_k0_t1 _ _ _ _ _ _ _ _ _ _ _ _ _ _ _ _ _ _ _ _ _ _ _ _ _ _ _ _ _ _ _ _ _ _ _ _ _ _ _ _ _ _ _ _ _ _ _ = _
      rw [hR]
      simp only [carry, hlt, dif_pos]
    · dsimp only
      rw [hL, List.append_assoc, List.singleton_append]
      by_cases hj : (j 0).val = n + 1
      · refine (View.read_writes_cons_unit_of_mem (off' := ![n + 1, 0, 0]) (size := S1x8x64.size) arg13.view f (k0_off1_inb ⟨n, hlt⟩) _ _ j
          (ix3 (0 : Fin 1) (j 1) (j 2)) (k0_off1_eq ⟨n, hlt⟩) (row_coords j (n + 1) hj)).trans ?_
        rw [if_pos ⟨by omega, by omega⟩]
        unfold rows
        have h1 : (j 0).val - 1 = n := by omega
        rw [dif_pos ⟨by omega, by omega⟩]
        subst h1
        rfl
      · refine (View.read_writes_cons_unit_of_not_mem (off' := ![n + 1, 0, 0]) (size := S1x8x64.size) arg13.view f (k0_off1_inb ⟨n, hlt⟩) _ _ j
          (k0_off1_eq ⟨n, hlt⟩) 0 (by
            show (j 0).val < n + 1 ∨ n + 1 + 1 ≤ (j 0).val
            omega)).trans ?_
        rw [ih2]
        by_cases h : 0 < (j 0).val ∧ (j 0).val ≤ n
        · rw [if_pos h, if_pos ⟨h.1, by omega⟩]
        · rw [if_neg h, if_neg (by omega)]

set_option maxHeartbeats 1000000 in
/-- After the loop the buffer, its first row zeroed before, holds `rows`. -/
theorem loop_rows (hq : arg10.view.read (Elt F) Xq = q) (hk : arg11.view.read (Elt F) Xk = k)
    (hv : arg12.view.read (Elt F) Xv = v) (f : BufTy.Contents (Elt F) arg13.view.ty) :
    arg13.view.read (Elt F) (arg13.view.writes (Elt F) f ((st_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 (consts (F := F)).slot (consts (F := F)).rslot (consts (F := F)).Bh (consts (F := F)).BhT (consts (F := F)).Br (consts (F := F)).BrT (consts (F := F)).E0r (consts (F := F)).sameh (consts (F := F)).samehr (consts (F := F)).ltij (consts (F := F)).ltijr Xq Xk Xv (carry0 (View.ld k rect0) (View.ld v rect0)) k0_t1_loop.trips).2 ++ [⟨rect0, k0_pay2⟩]))
      = rows q k v := by
  funext j
  rw [(loop_state 𝒱 c bd arg0 harg0 arg1 harg1 arg2 harg2 arg3 harg3 arg4 harg4 arg5 harg5 arg6 harg6 arg7 harg7 arg8 harg8 arg9 harg9 arg10 harg10 arg11 harg11 arg12 harg12 arg13 harg13 Xq Xk Xv q k v hq hk hv _ le_rfl).2]
  have hj : (j 0).val < 64 := (j 0).isLt
  have ht := trips_eq
  by_cases h : 0 < (j 0).val ∧ (j 0).val ≤ k0_t1_loop.trips
  · rw [if_pos h]
  · rw [if_neg h]
    have h0 : (j 0).val = 0 := by omega
    refine (View.read_writes_cons_unit_of_mem (off' := ![0, 0, 0]) (size := S1x8x64.size) arg13.view f inb_S64x8x64_S1x8x64_0_0_0 _ _ j
      (ix3 (0 : Fin 1) (j 1) (j 2)) rfl (row_coords j 0 h0)).trans ?_
    unfold rows
    rw [dif_neg (by omega)]

end Cert.Attn

end
-- ==== Proof.Body.lean ====
/-
  The kernel's body run once: from whole blocks holding the inputs, the output block ends holding
  `bodyOut` of them.
-/
module

public import proofs.«01_k».proof.Proof.BodyLoop
public import proofs.«01_k».proof.Proof.Gen.KernelIdeal.Frame
public import Idealize.ShloMosaic.Lib.VecWindow
public import Idealize.ShloMosaic.Lib.Pipeline.Value

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

theorem zero3 : (![0, 0, 0] : Fin 3 → ℕ) = fun _ => 0 := by decide

theorem zero2 : (![0, 0] : Fin 2 → ℕ) = fun _ => 0 := by decide

/-- A load of the first row block out of what a store of a whole array left. -/
theorem readCov_row0 (arg : Memref sig .tc .vmem S64x8x64 .f32) (w : Vec F S64x8x64 .f32) :
    arg.view.readCov (Val := Elt F) [⟨Rect.unit ![0, 0, 0] ![64, 8, 64] inb_S64x8x64_S64x8x64_0_0_0, w⟩] rect0.toLoadRect
      = View.ld w rect0 := by
  have h := View.read_writes_full (Val := Elt F) arg.view arg.view.junk inb_S64x8x64_S64x8x64_0_0_0 w []
  exact congrArg (fun y : Vec F S64x8x64 .f32 => View.ld y rect0) h

set_option maxHeartbeats 2000000 in
/-- The body's triple, the output block's contents named. -/
theorem bodyRun (c : Dev nD) (arg0 : Memref sig .tc .vmem S1x64x512 .f32) (harg0 : arg0.IsWhole) (arg1 : Memref sig .tc .vmem S512x512 .f32) (harg1 : arg1.IsWhole) (arg2 : Memref sig .tc .vmem S1x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1x64x512 .f32) (harg9 : arg9.IsWhole) (arg10 : Memref sig .tc .vmem S64x8x64 .f32) (harg10 : arg10.IsWhole) (arg11 : Memref sig .tc .vmem S64x8x64 .f32) (harg11 : arg11.IsWhole) (arg12 : Memref sig .tc .vmem S64x8x64 .f32) (harg12 : arg12.IsWhole) (arg13 : Memref sig .tc .vmem S64x8x64 .f32) (harg13 : arg13.IsWhole)
    (x0 : Vec F S1x64x512 .f32) (x1 : Vec F S512x512 .f32) (x2 : Vec F S1x512 .f32) (x3 : Vec F S512x512 .f32) (x4 : Vec F S1x512 .f32) (x5 : Vec F S512x512 .f32) (x6 : Vec F S1x512 .f32) (x7 : Vec F S512x512 .f32) (x8 : Vec F S1x512 .f32) :
    ∀ (E : Set ℕ) (K : PUnit → sProp 𝕄),
      iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
          ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (bodyOut x0 x1 x2 x3 x4 x5 x6 x7 x8) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
        ⊢ wp frame (wpE (defs₀ (F := F)) Variants.none c none) E (cc0__fwd arg0 harg0 arg1 harg1 arg2 harg2 arg3 harg3 arg4 harg4 arg5 harg5 arg6 harg6 arg7 harg7 arg8 harg8 arg9 harg9 arg10 harg10 arg11 harg11 arg12 harg12 arg13 harg13) K := by
  intro E K
  simp only [cc0__fwd_eq_skeleton]; unfold cc0__fwd_skel
  simp only [k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
  obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    sl_unfold_words
    simp only [View.readAt_eq_ld, Memref.IsWhole.read_unread]
    refine (View.read_writes_full arg9.view f9 inb_S1x64x512_S1x64x512_0_0_0 _ []).trans ?_
    have e0 : View.ld x0 (Rect.unit ![0, 0, 0] ![1, 64, 512] inb_S1x64x512_S1x64x512_0_0_0) = x0 := View.ld_unit_zero zero3 _ x0
    have e1 : View.ld x1 (Rect.unit ![0, 0] ![512, 512] inb_S512x512_S512x512_0_0) = x1 := View.ld_unit_zero zero2 _ x1
    have e3 : View.ld x3 (Rect.unit ![0, 0] ![512, 512] inb_S512x512_S512x512_0_0) = x3 := View.ld_unit_zero zero2 _ x3
    have e5 : View.ld x5 (Rect.unit ![0, 0] ![512, 512] inb_S512x512_S512x512_0_0) = x5 := View.ld_unit_zero zero2 _ x5
    have e7 : View.ld x7 (Rect.unit ![0, 0] ![512, 512] inb_S512x512_S512x512_0_0) = x7 := View.ld_unit_zero zero2 _ x7
    have e2 : View.ld x2 (Rect.unit ![0, 0] ![1, 512] inb_S1x512_S1x512_0_0) = x2 := View.ld_unit_zero zero2 _ x2
    have e4 : View.ld x4 (Rect.unit ![0, 0] ![1, 512] inb_S1x512_S1x512_0_0) = x4 := View.ld_unit_zero zero2 _ x4
    have e6 : View.ld x6 (Rect.unit ![0, 0] ![1, 512] inb_S1x512_S1x512_0_0) = x6 := View.ld_unit_zero zero2 _ x6
    have e8 : View.ld x8 (Rect.unit ![0, 0] ![1, 512] inb_S1x512_S1x512_0_0) = x8 := View.ld_unit_zero zero2 _ x8
    rw [e0, e1, e2, e3, e4, e5, e6, e7, e8]
    have hq : arg10.view.read (Elt F) (arg10.view.writes (Elt F) arg10.view.junk
        [⟨Rect.unit ![0, 0, 0] ![64, 8, 64] inb_S64x8x64_S64x8x64_0_0_0, k0_pay49 x0 x1 x2⟩]) = k0_pay49 x0 x1 x2 :=
      View.read_writes_full arg10.view _ inb_S64x8x64_S64x8x64_0_0_0 _ []
    have hk : arg11.view.read (Elt F) (arg11.view.writes (Elt F) arg11.view.junk
        [⟨Rect.unit ![0, 0, 0] ![64, 8, 64] inb_S64x8x64_S64x8x64_0_0_0, k0_pay50 x0 x3 x4⟩]) = k0_pay50 x0 x3 x4 :=
      View.read_writes_full arg11.view _ inb_S64x8x64_S64x8x64_0_0_0 _ []
    have hv : arg12.view.read (Elt F) (arg12.view.writes (Elt F) arg12.view.junk
        [⟨Rect.unit ![0, 0, 0] ![64, 8, 64] inb_S64x8x64_S64x8x64_0_0_0, k0_pay52 (k0_pay51 x0 x5 x6)⟩]) = k0_pay52 (k0_pay51 x0 x5 x6) :=
      View.read_writes_full arg12.view _ inb_S64x8x64_S64x8x64_0_0_0 _ []
    rw [readCov_row0 arg11, readCov_row0 arg12]
    unfold bodyOut
    congr 1
    refine (View.ld_unit_zero zero3 inb_S64x8x64_S64x8x64_0_0_0 _).trans ?_
    exact loop_rows Variants.none c none arg0 harg0 arg1 harg1 arg2 harg2 arg3 harg3 arg4 harg4 arg5 harg5 arg6 harg6 arg7 harg7 arg8 harg8 arg9 harg9 arg10 harg10 arg11 harg11 arg12 harg12 arg13 harg13 _ _ _ _ _ _ hq hk hv fs3
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.Attn

end
-- ==== Proof.KernelRun.lean ====
/-
  The run of the kernel's program: from any memory it ends with the result array holding `bodyOut`
  of the arguments, the arguments unchanged and every semaphore at zero.
-/
module

public import proofs.«01_k».proof.Proof.Body
public import Idealize.ShloMosaic.Lib.Claim

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The result block over the blocks the windows read. -/
def outBlk (c : Dev nD) (t : Fin cfg0.N) : Vec F S1x64x512 .f32 :=
  bodyOut (iblk m c 0 t) (iblk m c 1 t) (iblk m c 2 t) (iblk m c 3 t) (iblk m c 4 t) (iblk m c 5 t) (iblk m c 6 t) (iblk m c 7 t) (iblk m c 8 t)

/-- The proof data: inputs kept, the output block at `outBlk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outBlk m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- The scratch operands, whole buffers. -/
abbrev scr (b : Ref sig .tc) := Memref.whole b

theorem scratch_eq (c : Dev nD) :
    (Pipeline.ΦA spec0 c : sProp 𝕄)
      = iprop(iprop((∃ d, owns (c : Thread nD τ) (Memref.whole cc0_scratch0 : Memref sig .tc .vmem S64x8x64 .f32) fullShare d) ∗ (∃ d, owns (c : Thread nD τ) (Memref.whole cc0_scratch1 : Memref sig .tc .vmem S64x8x64 .f32) fullShare d) ∗ (∃ d, owns (c : Thread nD τ) (Memref.whole cc0_scratch2 : Memref sig .tc .vmem S64x8x64 .f32) fullShare d) ∗ (∃ d, owns (c : Thread nD τ) (Memref.whole cc0_scratch3 : Memref sig .tc .vmem S64x8x64 .f32) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  rw [show (dats m 0 c).Φ t.castSucc = Pipeline.ΦA spec0 c from rfl, scratch_eq]
  unfold outBlk
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((bodyRun c _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  iintro ⟨H0, H1, H2, H3, H4, H5, H6, H7, H8, H9, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with the counters. -/
theorem run_main_quiescent : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (Q' := fun r => Pipeline.FramePost cfgs (dats m) 0 (V m) r ∧ r.2.sem = fun _ => 0) (hQ' := fun _ h => h)

/-- The arguments end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

/-- The result, from the arrays as launched. -/
def result (c : Dev nD) : Buf (Elt F) ((c : Thread nD τ).loc main_v4) := outBlk m c t0_0

theorem flushed_eq (c : Dev nD) (t : Fin cfg0.N) (hf : (cfg0.win 9).flush t = true) :
    (dats m 0 c).flushed 9 t = ((cfg0.win 9).blk t).view.read (Elt F) (result m c) := by
  obtain rfl : t = t0_0 := fin_N0 t
  show (cfg0.win 9).cut (grid0.coords t0_0) ((dats m 0 c).after 9 t0_0) = _
  rw [after_9]
  have hz' : (fun a => win0_9.index t0_0 a * main_v4.ty.shape.size a) = fun _ => 0 := funext fun a => by fin_cases a <;> decide
  exact (Memref.read_access_unit_zero (Elt F) main_v4 hz' (fun a => by rw [congrFun hz' a]; simp) (result m c)).symm

theorem final_out (c : Dev nD) : (dats m 0 c).arrAt 9 cfg0.N = result m c :=
  (dats m 0 c).arrAt_eq_of_cover 9 (result m c) (flushed_eq m c) fun i =>
    ⟨t0_0, flush0_9 t0_0, by
      show i ∈ ((View.whole main_v4).slice (win0_9.rect t0_0)).set
      rw [View.set_slice_whole, Rect.mem_set_unit]
      intro a
      have hi : ∀ b : Fin 3, (i b : Nat) < (![1, 64, 512] : Fin 3 → ℕ) b := fun b => by
        match b with
        | ⟨0, _⟩ => exact (i 0).isLt
        | ⟨1, _⟩ => exact (i 1).isLt
        | ⟨2, _⟩ => exact (i 2).isLt
      have h0 := hi a
      have e1 : ∀ b : Fin 3, win0_9.index t0_0 b * win0_9.size b = 0 := by decide +kernel
      have e2 : ∀ b : Fin 3, win0_9.xsize (grid0.coords t0_0) b = (![1, 64, 512] : Fin 3 → ℕ) b := by decide +kernel
      show win0_9.index t0_0 a * win0_9.size a ≤ (i a : Nat) ∧ (i a : Nat) < win0_9.index t0_0 a * win0_9.size a + win0_9.xsize (grid0.coords t0_0) a
      rw [e1 a, e2 a]
      omega⟩

/-- The run, its result named. -/
theorem run_result : θ_run defs (onTc (τ := τ) (main (F := F))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.2.1 c).1 9).trans (final_out m c), h.1.1 c⟩)
    (θ_run_and (frame m ρ) (run_main_quiescent m ρ))

end Cert.Attn

end
-- ==== Proof.Inputs.lean ====
/-
  The blocks the kernel's windows read are the argument arrays, the bias arrays as one row.
-/
module

public import proofs.«01_k».proof.Proof.KernelRun
public import Idealize.ShloMosaic.Lib.StableHlo.RunRead

@[expose] public section

set_option maxRecDepth 16384

noncomputable section

namespace Cert.Attn

open Idealize.ShloMosaic Idealize.ShloMosaic.TcCoe Idealize.ShloMosaic.Tactic
open Cert.KernelIdeal Cert.KernelIdeal.Gen

variable {F : FTy → Type} [FloatOps F] [Named F]
variable (m : (ℓ : Loc nD τ sig) → Buf (Elt F) ℓ)

theorem bias_2 (c : Dev nD) :
    V m c main_v0 = shapeCast S1x512 (m ((c.tc : Thread nD τ).loc main_arg2)) shapeCasts_S512_S1x512 := by
  unfold V hostOps0
  after_reads_simp
  rfl

theorem bias_4 (c : Dev nD) :
    V m c main_v1 = shapeCast S1x512 (m ((c.tc : Thread nD τ).loc main_arg4)) shapeCasts_S512_S1x512 := by
  unfold V hostOps0
  after_reads_simp
  rfl

theorem bias_6 (c : Dev nD) :
    V m c main_v2 = shapeCast S1x512 (m ((c.tc : Thread nD τ).loc main_arg6)) shapeCasts_S512_S1x512 := by
  unfold V hostOps0
  after_reads_simp
  rfl

theorem bias_8 (c : Dev nD) :
    V m c main_v3 = shapeCast S1x512 (m ((c.tc : Thread nD τ).loc main_arg8)) shapeCasts_S512_S1x512 := by
  unfold V hostOps0
  after_reads_simp
  rfl

theorem blk_0 (c : Dev nD) : iblk m c 0 t0_0 = m ((c.tc : Thread nD τ).loc main_arg0) :=
  have hz' : (fun a => win0_0.index t0_0 a * main_arg0.ty.shape.size a) = fun _ => 0 := funext fun a => by fin_cases a <;> decide
  (Memref.read_access_unit_zero (Elt F) main_arg0 hz' (fun a => by rw [congrFun hz' a]; simp) (V m c main_arg0)).trans (V_main_arg0 m c)

theorem blk_1 (c : Dev nD) : iblk m c 1 t0_0 = m ((c.tc : Thread nD τ).loc main_arg1) :=
  have hz' : (fun a => win0_1.index t0_0 a * main_arg1.ty.shape.size a) = fun _ => 0 := funext fun a => by fin_cases a <;> decide
  (Memref.read_access_unit_zero (Elt F) main_arg1 hz' (fun a => by rw [congrFun hz' a]; simp) (V m c main_arg1)).trans (V_main_arg1 m c)

theorem blk_2 (c : Dev nD) : iblk m c 2 t0_0 = shapeCast S1x512 (m ((c.tc : Thread nD τ).loc main_arg2)) shapeCasts_S512_S1x512 :=
  have hz' : (fun a => win0_2.index t0_0 a * main_v0.ty.shape.size a) = fun _ => 0 := funext fun a => by fin_cases a <;> decide
  (Memref.read_access_unit_zero (Elt F) main_v0 hz' (fun a => by rw [congrFun hz' a]; simp) (V m c main_v0)).trans (bias_2 m c)

theorem blk_3 (c : Dev nD) : iblk m c 3 t0_0 = m ((c.tc : Thread nD τ).loc main_arg3) :=
  have hz' : (fun a => win0_3.index t0_0 a * main_arg3.ty.shape.size a) = fun _ => 0 := funext fun a => by fin_cases a <;> decide
  (Memref.read_access_unit_zero (Elt F) main_arg3 hz' (fun a => by rw [congrFun hz' a]; simp) (V m c main_arg3)).trans (V_main_arg3 m c)

theorem blk_4 (c : Dev nD) : iblk m c 4 t0_0 = shapeCast S1x512 (m ((c.tc : Thread nD τ).loc main_arg4)) shapeCasts_S512_S1x512 :=
  have hz' : (fun a => win0_4.index t0_0 a * main_v1.ty.shape.size a) = fun _ => 0 := funext fun a => by fin_cases a <;> decide
  (Memref.read_access_unit_zero (Elt F) main_v1 hz' (fun a => by rw [congrFun hz' a]; simp) (V m c main_v1)).trans (bias_4 m c)

theorem blk_5 (c : Dev nD) : iblk m c 5 t0_0 = m ((c.tc : Thread nD τ).loc main_arg5) :=
  have hz' : (fun a => win0_5.index t0_0 a * main_arg5.ty.shape.size a) = fun _ => 0 := funext fun a => by fin_cases a <;> decide
  (Memref.read_access_unit_zero (Elt F) main_arg5 hz' (fun a => by rw [congrFun hz' a]; simp) (V m c main_arg5)).trans (V_main_arg5 m c)

theorem blk_6 (c : Dev nD) : iblk m c 6 t0_0 = shapeCast S1x512 (m ((c.tc : Thread nD τ).loc main_arg6)) shapeCasts_S512_S1x512 :=
  have hz' : (fun a => win0_6.index t0_0 a * main_v2.ty.shape.size a) = fun _ => 0 := funext fun a => by fin_cases a <;> decide
  (Memref.read_access_unit_zero (Elt F) main_v2 hz' (fun a => by rw [congrFun hz' a]; simp) (V m c main_v2)).trans (bias_6 m c)

theorem blk_7 (c : Dev nD) : iblk m c 7 t0_0 = m ((c.tc : Thread nD τ).loc main_arg7) :=
  have hz' : (fun a => win0_7.index t0_0 a * main_arg7.ty.shape.size a) = fun _ => 0 := funext fun a => by fin_cases a <;> decide
  (Memref.read_access_unit_zero (Elt F) main_arg7 hz' (fun a => by rw [congrFun hz' a]; simp) (V m c main_arg7)).trans (V_main_arg7 m c)

theorem blk_8 (c : Dev nD) : iblk m c 8 t0_0 = shapeCast S1x512 (m ((c.tc : Thread nD τ).loc main_arg8)) shapeCasts_S512_S1x512 :=
  have hz' : (fun a => win0_8.index t0_0 a * main_v3.ty.shape.size a) = fun _ => 0 := funext fun a => by fin_cases a <;> decide
  (Memref.read_access_unit_zero (Elt F) main_v3 hz' (fun a => by rw [congrFun hz' a]; simp) (V m c main_v3)).trans (bias_8 m c)

end Cert.Attn

end
-- ==== Proof.Word.KernelRun.lean ====
/-
  The run of the kernel's program as it is written: from any memory it ends with the arguments
  unchanged and every semaphore at zero.

  Its mask constant is the word of a float; the module of the same name one directory up is about the
  program whose mask constant is named.
-/
module

public import proofs.«01_k».proof.Proof.Word.Body
public import Idealize.ShloMosaic.Lib.Claim

@[expose] public section

set_option maxRecDepth 16384

noncomputable section

namespace Cert.Attn.Word

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result block over the blocks the windows read. -/
def outBlk (c : Dev nD) (t : Fin cfg0.N) : Vec F S1x64x512 .f32 :=
  bodyOut (iblk m c 0 t) (iblk m c 1 t) (iblk m c 2 t) (iblk m c 3 t) (iblk m c 4 t) (iblk m c 5 t) (iblk m c 6 t) (iblk m c 7 t) (iblk m c 8 t)

/-- The proof data: inputs kept, the output block at `outBlk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outBlk m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- The scratch operands, whole buffers. -/
abbrev scr (b : Ref sig .tc) := Memref.whole b

theorem scratch_eq (c : Dev nD) :
    (Pipeline.ΦA spec0 c : sProp 𝕄)
      = iprop(iprop((∃ d, owns (c : Thread nD τ) (Memref.whole cc0_scratch0 : Memref sig .tc .vmem S64x8x64 .f32) fullShare d) ∗ (∃ d, owns (c : Thread nD τ) (Memref.whole cc0_scratch1 : Memref sig .tc .vmem S64x8x64 .f32) fullShare d) ∗ (∃ d, owns (c : Thread nD τ) (Memref.whole cc0_scratch2 : Memref sig .tc .vmem S64x8x64 .f32) fullShare d) ∗ (∃ d, owns (c : Thread nD τ) (Memref.whole cc0_scratch3 : Memref sig .tc .vmem S64x8x64 .f32) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  rw [show (dats m 0 c).Φ t.castSucc = Pipeline.ΦA spec0 c from rfl, scratch_eq]
  unfold outBlk
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((bodyRun c _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  iintro ⟨H0, H1, H2, H3, H4, H5, H6, H7, H8, H9, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with the counters. -/
theorem run_main_quiescent : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (Q' := fun r => Pipeline.FramePost cfgs (dats m) 0 (V m) r ∧ r.2.sem = fun _ => 0) (hQ' := fun _ h => h)

/-- The arguments end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Attn.Word

end
-- ==== Proof.lean ====
/-
  The certificate: the kernel, its idealization and the reference each run to the end with their
  arguments unchanged and every semaphore at zero; the idealization keeps the kernel's words but for the
  one named constant; and over finite queries and keys the idealized kernel and the reference end with
  the same result.
-/
module

public import proofs.«01_k».proof.Defs
public import proofs.«01_k».proof.Proof.Equal
public import proofs.«01_k».proof.Proof.Inputs
public import proofs.«01_k».proof.Proof.KernelRun
public import proofs.«01_k».proof.Proof.Word.KernelRun
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qk
public import proofs.«01_k».proof.Proof.Gen.ReferenceIdeal.Run
public import proofs.«01_k».proof.Proof.Gen.ReferenceIdeal.Step
public import proofs.«01_k».proof.Proof.Gen.ReferenceIdeal.StepRun
public import Idealize.ShloMosaic.Lib.Quiescent
public import Idealize.ShloMosaic.Adequacy
public import Idealize.ShloMosaic.Init

@[expose] public section

noncomputable section

namespace Cert.Proof

open Idealize.ShloMosaic Idealize.SL.Sem Cert.Kernel

attribute [local instance] Cert.Pre_finite_qk.Gen.facts

/-- The precondition at a device: the five arrays hold real numbers. -/
theorem real_inputs (m : (ℓ : Loc Cert.KernelIdeal.nD Cert.KernelIdeal.τ Cert.KernelIdeal.sig) → Buf (Elt Ideal) ℓ)
    (hp : Cert.Pre_KernelIdeal_finite_qk m) (c : Dev Cert.KernelIdeal.nD) :
    Cert.Attn.RealInputs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) :=
  ⟨Cert.Attn.real3 _ _ (hp c).1, Cert.Attn.real2 _ _ (hp c).2.1, Cert.Attn.real1 _ _ (hp c).2.2.1,
    Cert.Attn.real2 _ _ (hp c).2.2.2.1, Cert.Attn.real1 _ _ (hp c).2.2.2.2⟩

/-- The kernel's result, of the arguments as launched. -/
theorem kernel_result (m : (ℓ : Loc Cert.KernelIdeal.nD Cert.KernelIdeal.τ Cert.KernelIdeal.sig) → Buf (Elt Ideal) ℓ)
    (hp : Cert.Pre_KernelIdeal_finite_qk m) (c : Dev Cert.KernelIdeal.nD) :
    Cert.Attn.result m c = Cert.ReferenceIdeal.Step.R_main_v53 (F := Ideal)
      (Cert.Attn.Ref.it (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) 63) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  unfold Cert.Attn.result Cert.Attn.outBlk
  rw [Cert.Attn.blk_0, Cert.Attn.blk_1, Cert.Attn.blk_2, Cert.Attn.blk_3, Cert.Attn.blk_4, Cert.Attn.blk_5, Cert.Attn.blk_6, Cert.Attn.blk_7, Cert.Attn.blk_8]
  exact Cert.Attn.body_eq _ _ _ _ _ _ _ _ _ (real_inputs m hp c)

section
variable (m : (ℓ : Loc Cert.ReferenceIdeal.nD Cert.ReferenceIdeal.τ Cert.ReferenceIdeal.sig) → Buf (Elt Ideal) ℓ) (g : Dev Cert.ReferenceIdeal.nD → PrngReg)

/-- The states of the reference's loop. -/
def states (c : Dev Cert.ReferenceIdeal.nD) : ℕ → Cert.ReferenceIdeal.Step.State Ideal :=
  Cert.Attn.Ref.it (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))

/-- The reference's run: its result is read off the loop's last state, and its arguments end unchanged. -/
theorem run_reference : θ_run (Cert.ReferenceIdeal.defs (F := Ideal)) (onTc (τ := Cert.ReferenceIdeal.τ) (Cert.ReferenceIdeal.main (F := Ideal))) ⟨m, fun _ => 0, g⟩
    (fun r => ∀ c : Dev Cert.ReferenceIdeal.nD,
      r.2.mem ((c.tc : Thread Cert.ReferenceIdeal.nD Cert.ReferenceIdeal.τ).loc Cert.ReferenceIdeal.main_v53) = Cert.ReferenceIdeal.Step.R_main_v53 (states m c 63) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)) :=
  Cert.ReferenceIdeal.StepRun.run_iter (F := Ideal) m g (states m) (fun _ => rfl) (fun _ _ => rfl)

theorem frame_reference : Cert.quiescent_ReferenceIdeal := fun m g _ =>
  (θ_run _ _ _).mono (fun r h => ⟨fun c => (h c).2, Idealize.ShloMosaic.sem_eq_zero_of_no_sems (by decide) r.2⟩)
    (run_reference m g)

end

theorem equal : Cert.algebraic_KernelIdeal_ReferenceIdeal_pre_finite_qk := fun m g m' g' hp hm =>
  ⟨fun c => Cert.Attn.result m c, Cert.Attn.run_result m g,
    (θ_run _ _ _).mono (fun r h c => ⟨(h c).1.trans (by
      obtain ⟨e0, e1, e2, e3, e4, e5, e6, e7, e8⟩ := hm c
      refine Eq.trans ?_ (kernel_result m hp c).symm
      unfold states
      rw [e0, e1, e2, e3, e4, e5, e6, e7, e8]), (h c).2⟩) (run_reference m' g')⟩

theorem claim : Cert.Claim :=
  ⟨Cert.Kernel.Gen.facts, Cert.KernelIdeal.Gen.facts, Cert.ReferenceIdeal.Gen.facts, Cert.Pre_finite_qk.Gen.facts,
    fun m g _ => Cert.Attn.Word.frame m g,
    fun m g _ => Cert.Attn.frame m g,
    fun m g _ => Cert.Attn.frame m g,
    frame_reference,
    fun m g _ => frame_reference m g trivial,
    IdealRules.named_const.statement Cert.KernelIdeal.κ "mask" .f32 0xF149F2CA#32 ⊥ rfl,
    equal⟩

end Cert.Proof

end
